-- ==== Defs.lean ====
def Pre_Kernel [hPre_nodes_in_range : Cert.Pre_nodes_in_range.Facts] (m : (ℓ : Loc Cert.Kernel.nD Cert.Kernel.τ Cert.Kernel.sig) → Buf (Elt Bits) ℓ) : Prop :=
  ∀ c : Dev Cert.Kernel.nD,
    (Cert.Pre_nodes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_nodes_in_range : Cert.Pre_nodes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_in_range [hPre_nodes_in_range : Cert.Pre_nodes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_nodes_in_range : Cert.Pre_nodes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nodes_in_range [hReferenceIdeal : Cert.ReferenceIdeal.Facts] [hPre_nodes_in_range : Cert.Pre_nodes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nodes_in_range : Cert.Pre_nodes_in_range.Facts),
    quiescent_Kernel (hKernel := hKernel) (hPre_nodes_in_range := hPre_nodes_in_range)
    ∧ quiescent_KernelIdeal (hKernelIdeal := hKernelIdeal) (hPre_nodes_in_range := hPre_nodes_in_range)
    ∧ quiescent_ReferenceIdeal (hReferenceIdeal := hReferenceIdeal)
    ∧ quiescent_ReferenceIdeal_pre_nodes_in_range (hReferenceIdeal := hReferenceIdeal) (hPre_nodes_in_range := hPre_nodes_in_range)
    ∧ preserves_Kernel_KernelIdeal
    ∧ algebraic_KernelIdeal_ReferenceIdeal (hKernelIdeal := hKernelIdeal) (hReferenceIdeal := hReferenceIdeal) (hPre_nodes_in_range := hPre_nodes_in_range)
-- ==== Pre_nodes_in_range.lean ====
abbrev S16384x256 : Shape := ⟨2, ![16384, 256]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S16384x256 .f32) (main_arg1 : FVec F S64 .f32) (main_arg2 : IVec S64 32) : IVec S_ 1 :=
  let main_c : IVec S_ 32 := constantI S_ 32 0#32
  let main_v0 : IVec S64 32 := broadcastInDim S64 ![] bcast_S_S64 main_c
  let main_v1 : IVec S64 1 := cmpi .sge main_arg2 main_v0
  let main_c_0 : IVec S_ 32 := constantI S_ 32 256#32
  let main_v2 : IVec S64 32 := broadcastInDim S64 ![] bcast_S_S64 main_c_0
  let main_v3 : IVec S64 1 := cmpi .slt main_arg2 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S16384x256 : Shape := ⟨2, ![16384, 256]⟩
abbrev S64 : Shape := ⟨1, ![64]⟩
abbrev S16384x64 : Shape := ⟨2, ![16384, 64]⟩
abbrev S128x256 : Shape := ⟨2, ![128, 256]⟩
abbrev S128x64 : Shape := ⟨2, ![128, 64]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 4
  | _ => 0

abbrev bufTy : (tb : Table) → Fin (nBuf tb) → BufTy
  | .hbm, ⟨0, _⟩ => ⟨S16384x256, .f32⟩
  | .hbm, ⟨1, _⟩ => ⟨S64, .f32⟩
  | .hbm, ⟨2, _⟩ => ⟨S64, .i32⟩
  | .hbm, ⟨3, _⟩ => ⟨S16384x64, .f32⟩
  | .local .scVector .vmem, ⟨0, _⟩ => ⟨S64, .i32⟩
  | .local .scVector .vmem, ⟨1, _⟩ => ⟨S64, .f32⟩
  | .local .scVector .vmem, ⟨2, _⟩ => ⟨S128x256, .f32⟩
  | .local .scVector .vmem, ⟨3, _⟩ => ⟨S128x64, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v9 : BitVec 32 := Scalar.addi v0 c0_i32
  let c0_i32_35_r2 : BitVec 32 := 0#32
  ![v9.toNat, 0]
@[reducible] def k0_t1_loop : Scf.Loop 32 :=
  let c0_i32_4 : BitVec 32 := 0#32
  let c128_i32 : BitVec 32 := 128#32
  let v10 : BitVec 32 := Scalar.addi c0_i32_4 c128_i32
  let c1_i32 : BitVec 32 := 1#32
  ⟨c0_i32_4, v10, c1_i32⟩
def k0_off2 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let v28 : Index := Scalar.indexCast arg10
  let c0_35 : Index := 0#32
  ![v28.toNat, 0]
def k0_off3 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let v32 : Index := Scalar.indexCast arg10
  let c16_36 : Index := 16#32
  ![v32.toNat, 16]
def k0_off4 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let v36 : Index := Scalar.indexCast arg10
  let c32_37 : Index := 32#32
  ![v36.toNat, 32]

def k0_chk1 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx1_inb : ∀ (v1 : IVec S16 32) (v2 : IVec S16 32) (v3 : IVec S16 32) (v4 : IVec S16 32) (v25 : IVec S16 32) (k0_hw1 : k0_chk1 v1 v2 v3 v4 v25), ∀ a x, ((![v25, v1] : Fin 2 → IVec S16 32) a x).toNat < S128x256.size a := fun v1 v2 v3 v4 v25 k0_hw1 => k0_hw1.1
theorem k0_idx2_inb : ∀ (v1 : IVec S16 32) (v2 : IVec S16 32) (v3 : IVec S16 32) (v4 : IVec S16 32) (v25 : IVec S16 32) (k0_hw1 : k0_chk1 v1 v2 v3 v4 v25), ∀ a x, ((![v25, v2] : Fin 2 → IVec S16 32) a x).toNat < S128x256.size a := fun v1 v2 v3 v4 v25 k0_hw1 => k0_hw1.2.1
theorem k0_idx3_inb : ∀ (v1 : IVec S16 32) (v2 : IVec S16 32) (v3 : IVec S16 32) (v4 : IVec S16 32) (v25 : IVec S16 32) (k0_hw1 : k0_chk1 v1 v2 v3 v4 v25), ∀ a x, ((![v25, v3] : Fin 2 → IVec S16 32) a x).toNat < S128x256.size a := fun v1 v2 v3 v4 v25 k0_hw1 => k0_hw1.2.2.1
theorem k0_idx4_inb : ∀ (v1 : IVec S16 32) (v2 : IVec S16 32) (v3 : IVec S16 32) (v4 : IVec S16 32) (v25 : IVec S16 32) (k0_hw1 : k0_chk1 v1 v2 v3 v4 v25), ∀ a x, ((![v25, v4] : Fin 2 → IVec S16 32) a x).toNat < S128x256.size a := fun v1 v2 v3 v4 v25 k0_hw1 => k0_hw1.2.2.2
def k0_off5 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let v40 : Index := Scalar.indexCast arg10
  let c48_38 : Index := 48#32
  ![v40.toNat, 48]
def k0_off6 (i : grid0.Coords) (c0_i32 : BitVec 32) : Fin 2 → Nat :=
  let arg1 : BitVec 32 := BitVec.ofNat 32 (i 1).val
  let c1024_i32 : BitVec 32 := 1024#32
  let v0 : BitVec 32 := Scalar.muli arg1 c1024_i32
  let v9 : BitVec 32 := Scalar.addi v0 c0_i32
  let c0_i32_35_r3 : BitVec 32 := 0#32
  ![v9.toNat, 0]
def k0_off7 (i : grid0.Coords) (c128_i32_6 : BitVec 32) : Fin 2 → Nat :=
  let arg1 : BitVec 32 := BitVec.ofNat 32 (i 1).val
  let c1024_i32 : BitVec 32 := 1024#32
  let v0 : BitVec 32 := Scalar.muli arg1 c1024_i32
  let v11 : BitVec 32 := Scalar.addi v0 c128_i32_6
  let c0_i32_35_r4 : BitVec 32 := 0#32
  ![v11.toNat, 0]
@[reducible] def k0_t2_loop : Scf.Loop 32 :=
  let c0_i32_7 : BitVec 32 := 0#32
  let c128_i32_8 : BitVec 32 := 128#32
  let v12 : BitVec 32 := Scalar.addi c0_i32_7 c128_i32_8
  let c1_i32_9 : BitVec 32 := 1#32
  ⟨c0_i32_7, v12, c1_i32_9⟩
def k0_off8 (k0_t2 : Fin k0_t2_loop.trips) : Fin 2 → Nat :=
  let c0_i32_7 : BitVec 32 := 0#32
  let c1_i32_9 : BitVec 32 := 1#32
  let arg10 : BitVec 32 := Scf.iv c0_i32_7 c1_i32_9 k0_t2
  let v28 : Index := Scalar.indexCast arg10
  let c0_35 : Index := 0#32
  ![v28.toNat, 0]
def k0_off9 (k0_t2 : Fin k0_t2_loop.trips) : Fin 2 → Nat :=
  let c0_i32_7 : BitVec 32 := 0#32
  let c1_i32_9 : BitVec 32 := 1#32
  let arg10 : BitVec 32 := Scf.iv c0_i32_7 c1_i32_9 k0_t2
  let v32 : Index := Scalar.indexCast arg10
  let c16_36 : Index := 16#32
  ![v32.toNat, 16]
def k0_off10 (k0_t2 : Fin k0_t2_loop.trips) : Fin 2 → Nat :=
  let c0_i32_7 : BitVec 32 := 0#32
  let c1_i32_9 : BitVec 32 := 1#32
  let arg10 : BitVec 32 := Scf.iv c0_i32_7 c1_i32_9 k0_t2
  let v36 : Index := Scalar.indexCast arg10
  let c32_37 : Index := 32#32
  ![v36.toNat, 32]

def k0_chk2 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx5_inb : ∀ (v1 : IVec S16 32) (v2 : IVec S16 32) (v3 : IVec S16 32) (v4 : IVec S16 32) (v25 : IVec S16 32) (k0_hw2 : k0_chk2 v1 v2 v3 v4 v25), ∀ a x, ((![v25, v1] : Fin 2 → IVec S16 32) a x).toNat < S128x256.size a := fun v1 v2 v3 v4 v25 k0_hw2 => k0_hw2.1
theorem k0_idx6_inb : ∀ (v1 : IVec S16 32) (v2 : IVec S16 32) (v3 : IVec S16 32) (v4 : IVec S16 32) (v25 : IVec S16 32) (k0_hw2 : k0_chk2 v1 v2 v3 v4 v25), ∀ a x, ((![v25, v2] : Fin 2 → IVec S16 32) a x).toNat < S128x256.size a := fun v1 v2 v3 v4 v25 k0_hw2 => k0_hw2.2.1
theorem k0_idx7_inb : ∀ (v1 : IVec S16 32) (v2 : IVec S16 32) (v3 : IVec S16 32) (v4 : IVec S16 32) (v25 : IVec S16 32) (k0_hw2 : k0_chk2 v1 v2 v3 v4 v25), ∀ a x, ((![v25, v3] : Fin 2 → IVec S16 32) a x).toNat < S128x256.size a := fun v1 v2 v3 v4 v25 k0_hw2 => k0_hw2.2.2.1
theorem k0_idx8_inb : ∀ (v1 : IVec S16 32) (v2 : IVec S16 32) (v3 : IVec S16 32) (v4 : IVec S16 32) (v25 : IVec S16 32) (k0_hw2 : k0_chk2 v1 v2 v3 v4 v25), ∀ a x, ((![v25, v4] : Fin 2 → IVec S16 32) a x).toNat < S128x256.size a := fun v1 v2 v3 v4 v25 k0_hw2 => k0_hw2.2.2.2
def k0_off11 (k0_t2 : Fin k0_t2_loop.trips) : Fin 2 → Nat :=
  let c0_i32_7 : BitVec 32 := 0#32
  let c1_i32_9 : BitVec 32 := 1#32
  let arg10 : BitVec 32 := Scf.iv c0_i32_7 c1_i32_9 k0_t2
  let v40 : Index := Scalar.indexCast arg10
  let c48_38 : Index := 48#32
  ![v40.toNat, 48]
@[reducible] def k0_t3_loop : Scf.Loop 32 :=
  let c0_i32_11 : BitVec 32 := 0#32
  let c128_i32_12 : BitVec 32 := 128#32
  let v14 : BitVec 32 := Scalar.addi c0_i32_11 c128_i32_12
  let c1_i32_13 : BitVec 32 := 1#32
  ⟨c0_i32_11, v14, c1_i32_13⟩
def k0_off12 (k0_t3 : Fin k0_t3_loop.trips) : Fin 2 → Nat :=
  let c0_i32_11 : BitVec 32 := 0#32
  let c1_i32_13 : BitVec 32 := 1#32
  let arg10 : BitVec 32 := Scf.iv c0_i32_11 c1_i32_13 k0_t3
  let v28 : Index := Scalar.indexCast arg10
  let c0_35 : Index := 0#32
  ![v28.toNat, 0]
def k0_off13 (k0_t3 : Fin k0_t3_loop.trips) : Fin 2 → Nat :=
  let c0_i32_11 : BitVec 32 := 0#32
  let c1_i32_13 : BitVec 32 := 1#32
  let arg10 : BitVec 32 := Scf.iv c0_i32_11 c1_i32_13 k0_t3
  let v32 : Index := Scalar.indexCast arg10
  let c16_36 : Index := 16#32
  ![v32.toNat, 16]
def k0_off14 (k0_t3 : Fin k0_t3_loop.trips) : Fin 2 → Nat :=
  let c0_i32_11 : BitVec 32 := 0#32
  let c1_i32_13 : BitVec 32 := 1#32
  let arg10 : BitVec 32 := Scf.iv c0_i32_11 c1_i32_13 k0_t3
  let v36 : Index := Scalar.indexCast arg10
  let c32_37 : Index := 32#32
  ![v36.toNat, 32]

def k0_chk3 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx9_inb : ∀ (v1 : IVec S16 32) (v2 : IVec S16 32) (v3 : IVec S16 32) (v4 : IVec S16 32) (v25 : IVec S16 32) (k0_hw3 : k0_chk3 v1 v2 v3 v4 v25), ∀ a x, ((![v25, v1] : Fin 2 → IVec S16 32) a x).toNat < S128x256.size a := fun v1 v2 v3 v4 v25 k0_hw3 => k0_hw3.1
theorem k0_idx10_inb : ∀ (v1 : IVec S16 32) (v2 : IVec S16 32) (v3 : IVec S16 32) (v4 : IVec S16 32) (v25 : IVec S16 32) (k0_hw3 : k0_chk3 v1 v2 v3 v4 v25), ∀ a x, ((![v25, v2] : Fin 2 → IVec S16 32) a x).toNat < S128x256.size a := fun v1 v2 v3 v4 v25 k0_hw3 => k0_hw3.2.1
theorem k0_idx11_inb : ∀ (v1 : IVec S16 32) (v2 : IVec S16 32) (v3 : IVec S16 32) (v4 : IVec S16 32) (v25 : IVec S16 32) (k0_hw3 : k0_chk3 v1 v2 v3 v4 v25), ∀ a x, ((![v25, v3] : Fin 2 → IVec S16 32) a x).toNat < S128x256.size a := fun v1 v2 v3 v4 v25 k0_hw3 => k0_hw3.2.2.1
theorem k0_idx12_inb : ∀ (v1 : IVec S16 32) (v2 : IVec S16 32) (v3 : IVec S16 32) (v4 : IVec S16 32) (v25 : IVec S16 32) (k0_hw3 : k0_chk3 v1 v2 v3 v4 v25), ∀ a x, ((![v25, v4] : Fin 2 → IVec S16 32) a x).toNat < S128x256.size a := fun v1 v2 v3 v4 v25 k0_hw3 => k0_hw3.2.2.2
def k0_off15 (k0_t3 : Fin k0_t3_loop.trips) : Fin 2 → Nat :=
  let c0_i32_11 : BitVec 32 := 0#32
  let c1_i32_13 : BitVec 32 := 1#32
  let arg10 : BitVec 32 := Scf.iv c0_i32_11 c1_i32_13 k0_t3
  let v40 : Index := Scalar.indexCast arg10
  let c48_38 : Index := 48#32
  ![v40.toNat, 48]
@[reducible] def k0_t4_loop : Scf.Loop 32 :=
  let c0_i32_15 : BitVec 32 := 0#32
  let c128_i32_16 : BitVec 32 := 128#32
  let v16 : BitVec 32 := Scalar.addi c0_i32_15 c128_i32_16
  let c1_i32_17 : BitVec 32 := 1#32
  ⟨c0_i32_15, v16, c1_i32_17⟩
def k0_off16 (k0_t4 : Fin k0_t4_loop.trips) : Fin 2 → Nat :=
  let c0_i32_15 : BitVec 32 := 0#32
  let c1_i32_17 : BitVec 32 := 1#32
  let arg10 : BitVec 32 := Scf.iv c0_i32_15 c1_i32_17 k0_t4
  let v28 : Index := Scalar.indexCast arg10
  let c0_35 : Index := 0#32
  ![v28.toNat, 0]
def k0_off17 (k0_t4 : Fin k0_t4_loop.trips) : Fin 2 → Nat :=
  let c0_i32_15 : BitVec 32 := 0#32
  let c1_i32_17 : BitVec 32 := 1#32
  let arg10 : BitVec 32 := Scf.iv c0_i32_15 c1_i32_17 k0_t4
  let v32 : Index := Scalar.indexCast arg10
  let c16_36 : Index := 16#32
  ![v32.toNat, 16]
def k0_off18 (k0_t4 : Fin k0_t4_loop.trips) : Fin 2 → Nat :=
  let c0_i32_15 : BitVec 32 := 0#32
  let c1_i32_17 : BitVec 32 := 1#32
  let arg10 : BitVec 32 := Scf.iv c0_i32_15 c1_i32_17 k0_t4
  let v36 : Index := Scalar.indexCast arg10
  let c32_37 : Index := 32#32
  ![v36.toNat, 32]

def k0_chk4 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx13_inb : ∀ (v1 : IVec S16 32) (v2 : IVec S16 32) (v3 : IVec S16 32) (v4 : IVec S16 32) (v25 : IVec S16 32) (k0_hw4 : k0_chk4 v1 v2 v3 v4 v25), ∀ a x, ((![v25, v1] : Fin 2 → IVec S16 32) a x).toNat < S128x256.size a := fun v1 v2 v3 v4 v25 k0_hw4 => k0_hw4.1
theorem k0_idx14_inb : ∀ (v1 : IVec S16 32) (v2 : IVec S16 32) (v3 : IVec S16 32) (v4 : IVec S16 32) (v25 : IVec S16 32) (k0_hw4 : k0_chk4 v1 v2 v3 v4 v25), ∀ a x, ((![v25, v2] : Fin 2 → IVec S16 32) a x).toNat < S128x256.size a := fun v1 v2 v3 v4 v25 k0_hw4 => k0_hw4.2.1
theorem k0_idx15_inb : ∀ (v1 : IVec S16 32) (v2 : IVec S16 32) (v3 : IVec S16 32) (v4 : IVec S16 32) (v25 : IVec S16 32) (k0_hw4 : k0_chk4 v1 v2 v3 v4 v25), ∀ a x, ((![v25, v3] : Fin 2 → IVec S16 32) a x).toNat < S128x256.size a := fun v1 v2 v3 v4 v25 k0_hw4 => k0_hw4.2.2.1
theorem k0_idx16_inb : ∀ (v1 : IVec S16 32) (v2 : IVec S16 32) (v3 : IVec S16 32) (v4 : IVec S16 32) (v25 : IVec S16 32) (k0_hw4 : k0_chk4 v1 v2 v3 v4 v25), ∀ a x, ((![v25, v4] : Fin 2 → IVec S16 32) a x).toNat < S128x256.size a := fun v1 v2 v3 v4 v25 k0_hw4 => k0_hw4.2.2.2
def k0_off19 (k0_t4 : Fin k0_t4_loop.trips) : Fin 2 → Nat :=
  let c0_i32_15 : BitVec 32 := 0#32
  let c1_i32_17 : BitVec 32 := 1#32
  let arg10 : BitVec 32 := Scf.iv c0_i32_15 c1_i32_17 k0_t4
  let v40 : Index := Scalar.indexCast arg10
  let c48_38 : Index := 48#32
  ![v40.toNat, 48]
@[reducible] def k0_t5_loop : Scf.Loop 32 :=
  let c0_i32_19 : BitVec 32 := 0#32
  let c128_i32_20 : BitVec 32 := 128#32
  let v18 : BitVec 32 := Scalar.addi c0_i32_19 c128_i32_20
  let c1_i32_21 : BitVec 32 := 1#32
  ⟨c0_i32_19, v18, c1_i32_21⟩
def k0_off20 (k0_t5 : Fin k0_t5_loop.trips) : Fin 2 → Nat :=
  let c0_i32_19 : BitVec 32 := 0#32
  let c1_i32_21 : BitVec 32 := 1#32
  let arg10 : BitVec 32 := Scf.iv c0_i32_19 c1_i32_21 k0_t5
  let v28 : Index := Scalar.indexCast arg10
  let c0_35 : Index := 0#32
  ![v28.toNat, 0]
def k0_off21 (k0_t5 : Fin k0_t5_loop.trips) : Fin 2 → Nat :=
  let c0_i32_19 : BitVec 32 := 0#32
  let c1_i32_21 : BitVec 32 := 1#32
  let arg10 : BitVec 32 := Scf.iv c0_i32_19 c1_i32_21 k0_t5
  let v32 : Index := Scalar.indexCast arg10
  let c16_36 : Index := 16#32
  ![v32.toNat, 16]
def k0_off22 (k0_t5 : Fin k0_t5_loop.trips) : Fin 2 → Nat :=
  let c0_i32_19 : BitVec 32 := 0#32
  let c1_i32_21 : BitVec 32 := 1#32
  let arg10 : BitVec 32 := Scf.iv c0_i32_19 c1_i32_21 k0_t5
  let v36 : Index := Scalar.indexCast arg10
  let c32_37 : Index := 32#32
  ![v36.toNat, 32]

def k0_chk5 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx17_inb : ∀ (v1 : IVec S16 32) (v2 : IVec S16 32) (v3 : IVec S16 32) (v4 : IVec S16 32) (v25 : IVec S16 32) (k0_hw5 : k0_chk5 v1 v2 v3 v4 v25), ∀ a x, ((![v25, v1] : Fin 2 → IVec S16 32) a x).toNat < S128x256.size a := fun v1 v2 v3 v4 v25 k0_hw5 => k0_hw5.1
theorem k0_idx18_inb : ∀ (v1 : IVec S16 32) (v2 : IVec S16 32) (v3 : IVec S16 32) (v4 : IVec S16 32) (v25 : IVec S16 32) (k0_hw5 : k0_chk5 v1 v2 v3 v4 v25), ∀ a x, ((![v25, v2] : Fin 2 → IVec S16 32) a x).toNat < S128x256.size a := fun v1 v2 v3 v4 v25 k0_hw5 => k0_hw5.2.1
theorem k0_idx19_inb : ∀ (v1 : IVec S16 32) (v2 : IVec S16 32) (v3 : IVec S16 32) (v4 : IVec S16 32) (v25 : IVec S16 32) (k0_hw5 : k0_chk5 v1 v2 v3 v4 v25), ∀ a x, ((![v25, v3] : Fin 2 → IVec S16 32) a x).toNat < S128x256.size a := fun v1 v2 v3 v4 v25 k0_hw5 => k0_hw5.2.2.1
theorem k0_idx20_inb : ∀ (v1 : IVec S16 32) (v2 : IVec S16 32) (v3 : IVec S16 32) (v4 : IVec S16 32) (v25 : IVec S16 32) (k0_hw5 : k0_chk5 v1 v2 v3 v4 v25), ∀ a x, ((![v25, v4] : Fin 2 → IVec S16 32) a x).toNat < S128x256.size a := fun v1 v2 v3 v4 v25 k0_hw5 => k0_hw5.2.2.2
def k0_off23 (k0_t5 : Fin k0_t5_loop.trips) : Fin 2 → Nat :=
  let c0_i32_19 : BitVec 32 := 0#32
  let c1_i32_21 : BitVec 32 := 1#32
  let arg10 : BitVec 32 := Scf.iv c0_i32_19 c1_i32_21 k0_t5
  let v40 : Index := Scalar.indexCast arg10
  let c48_38 : Index := 48#32
  ![v40.toNat, 48]
@[reducible] def k0_t6_loop : Scf.Loop 32 :=
  let c0_i32_23 : BitVec 32 := 0#32
  let c128_i32_24 : BitVec 32 := 128#32
  let v20 : BitVec 32 := Scalar.addi c0_i32_23 c128_i32_24
  let c1_i32_25 : BitVec 32 := 1#32
  ⟨c0_i32_23, v20, c1_i32_25⟩
def k0_off24 (k0_t6 : Fin k0_t6_loop.trips) : Fin 2 → Nat :=
  let c0_i32_23 : BitVec 32 := 0#32
  let c1_i32_25 : BitVec 32 := 1#32
  let arg10 : BitVec 32 := Scf.iv c0_i32_23 c1_i32_25 k0_t6
  let v28 : Index := Scalar.indexCast arg10
  let c0_35 : Index := 0#32
  ![v28.toNat, 0]
def k0_off25 (k0_t6 : Fin k0_t6_loop.trips) : Fin 2 → Nat :=
  let c0_i32_23 : BitVec 32 := 0#32
  let c1_i32_25 : BitVec 32 := 1#32
  let arg10 : BitVec 32 := Scf.iv c0_i32_23 c1_i32_25 k0_t6
  let v32 : Index := Scalar.indexCast arg10
  let c16_36 : Index := 16#32
  ![v32.toNat, 16]
def k0_off26 (k0_t6 : Fin k0_t6_loop.trips) : Fin 2 → Nat :=
  let c0_i32_23 : BitVec 32 := 0#32
  let c1_i32_25 : BitVec 32 := 1#32
  let arg10 : BitVec 32 := Scf.iv c0_i32_23 c1_i32_25 k0_t6
  let v36 : Index := Scalar.indexCast arg10
  let c32_37 : Index := 32#32
  ![v36.toNat, 32]

def k0_chk6 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx21_inb : ∀ (v1 : IVec S16 32) (v2 : IVec S16 32) (v3 : IVec S16 32) (v4 : IVec S16 32) (v25 : IVec S16 32) (k0_hw6 : k0_chk6 v1 v2 v3 v4 v25), ∀ a x, ((![v25, v1] : Fin 2 → IVec S16 32) a x).toNat < S128x256.size a := fun v1 v2 v3 v4 v25 k0_hw6 => k0_hw6.1
theorem k0_idx22_inb : ∀ (v1 : IVec S16 32) (v2 : IVec S16 32) (v3 : IVec S16 32) (v4 : IVec S16 32) (v25 : IVec S16 32) (k0_hw6 : k0_chk6 v1 v2 v3 v4 v25), ∀ a x, ((![v25, v2] : Fin 2 → IVec S16 32) a x).toNat < S128x256.size a := fun v1 v2 v3 v4 v25 k0_hw6 => k0_hw6.2.1
theorem k0_idx23_inb : ∀ (v1 : IVec S16 32) (v2 : IVec S16 32) (v3 : IVec S16 32) (v4 : IVec S16 32) (v25 : IVec S16 32) (k0_hw6 : k0_chk6 v1 v2 v3 v4 v25), ∀ a x, ((![v25, v3] : Fin 2 → IVec S16 32) a x).toNat < S128x256.size a := fun v1 v2 v3 v4 v25 k0_hw6 => k0_hw6.2.2.1
theorem k0_idx24_inb : ∀ (v1 : IVec S16 32) (v2 : IVec S16 32) (v3 : IVec S16 32) (v4 : IVec S16 32) (v25 : IVec S16 32) (k0_hw6 : k0_chk6 v1 v2 v3 v4 v25), ∀ a x, ((![v25, v4] : Fin 2 → IVec S16 32) a x).toNat < S128x256.size a := fun v1 v2 v3 v4 v25 k0_hw6 => k0_hw6.2.2.2
def k0_off27 (k0_t6 : Fin k0_t6_loop.trips) : Fin 2 → Nat :=
  let c0_i32_23 : BitVec 32 := 0#32
  let c1_i32_25 : BitVec 32 := 1#32
  let arg10 : BitVec 32 := Scf.iv c0_i32_23 c1_i32_25 k0_t6
  let v40 : Index := Scalar.indexCast arg10
  let c48_38 : Index := 48#32
  ![v40.toNat, 48]
@[reducible] def k0_t7_loop : Scf.Loop 32 :=
  let c0_i32_27 : BitVec 32 := 0#32
  let c128_i32_28 : BitVec 32 := 128#32
  let v22 : BitVec 32 := Scalar.addi c0_i32_27 c128_i32_28
  let c1_i32_29 : BitVec 32 := 1#32
  ⟨c0_i32_27, v22, c1_i32_29⟩
def k0_off28 (k0_t7 : Fin k0_t7_loop.trips) : Fin 2 → Nat :=
  let c0_i32_27 : BitVec 32 := 0#32
  let c1_i32_29 : BitVec 32 := 1#32
  let arg10 : BitVec 32 := Scf.iv c0_i32_27 c1_i32_29 k0_t7
  let v28 : Index := Scalar.indexCast arg10
  let c0_35 : Index := 0#32
  ![v28.toNat, 0]
def k0_off29 (k0_t7 : Fin k0_t7_loop.trips) : Fin 2 → Nat :=
  let c0_i32_27 : BitVec 32 := 0#32
  let c1_i32_29 : BitVec 32 := 1#32
  let arg10 : BitVec 32 := Scf.iv c0_i32_27 c1_i32_29 k0_t7
  let v32 : Index := Scalar.indexCast arg10
  let c16_36 : Index := 16#32
  ![v32.toNat, 16]
def k0_off30 (k0_t7 : Fin k0_t7_loop.trips) : Fin 2 → Nat :=
  let c0_i32_27 : BitVec 32 := 0#32
  let c1_i32_29 : BitVec 32 := 1#32
  let arg10 : BitVec 32 := Scf.iv c0_i32_27 c1_i32_29 k0_t7
  let v36 : Index := Scalar.indexCast arg10
  let c32_37 : Index := 32#32
  ![v36.toNat, 32]

def k0_chk7 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx25_inb : ∀ (v1 : IVec S16 32) (v2 : IVec S16 32) (v3 : IVec S16 32) (v4 : IVec S16 32) (v25 : IVec S16 32) (k0_hw7 : k0_chk7 v1 v2 v3 v4 v25), ∀ a x, ((![v25, v1] : Fin 2 → IVec S16 32) a x).toNat < S128x256.size a := fun v1 v2 v3 v4 v25 k0_hw7 => k0_hw7.1
theorem k0_idx26_inb : ∀ (v1 : IVec S16 32) (v2 : IVec S16 32) (v3 : IVec S16 32) (v4 : IVec S16 32) (v25 : IVec S16 32) (k0_hw7 : k0_chk7 v1 v2 v3 v4 v25), ∀ a x, ((![v25, v2] : Fin 2 → IVec S16 32) a x).toNat < S128x256.size a := fun v1 v2 v3 v4 v25 k0_hw7 => k0_hw7.2.1
theorem k0_idx27_inb : ∀ (v1 : IVec S16 32) (v2 : IVec S16 32) (v3 : IVec S16 32) (v4 : IVec S16 32) (v25 : IVec S16 32) (k0_hw7 : k0_chk7 v1 v2 v3 v4 v25), ∀ a x, ((![v25, v3] : Fin 2 → IVec S16 32) a x).toNat < S128x256.size a := fun v1 v2 v3 v4 v25 k0_hw7 => k0_hw7.2.2.1
theorem k0_idx28_inb : ∀ (v1 : IVec S16 32) (v2 : IVec S16 32) (v3 : IVec S16 32) (v4 : IVec S16 32) (v25 : IVec S16 32) (k0_hw7 : k0_chk7 v1 v2 v3 v4 v25), ∀ a x, ((![v25, v4] : Fin 2 → IVec S16 32) a x).toNat < S128x256.size a := fun v1 v2 v3 v4 v25 k0_hw7 => k0_hw7.2.2.2
def k0_off31 (k0_t7 : Fin k0_t7_loop.trips) : Fin 2 → Nat :=
  let c0_i32_27 : BitVec 32 := 0#32
  let c1_i32_29 : BitVec 32 := 1#32
  let arg10 : BitVec 32 := Scf.iv c0_i32_27 c1_i32_29 k0_t7
  let v40 : Index := Scalar.indexCast arg10
  let c48_38 : Index := 48#32
  ![v40.toNat, 48]
@[reducible] def k0_t8_loop : Scf.Loop 32 :=
  let c0_i32_31 : BitVec 32 := 0#32
  let c128_i32_32 : BitVec 32 := 128#32
  let v24 : BitVec 32 := Scalar.addi c0_i32_31 c128_i32_32
  let c1_i32_33 : BitVec 32 := 1#32
  ⟨c0_i32_31, v24, c1_i32_33⟩
def k0_off32 (k0_t8 : Fin k0_t8_loop.trips) : Fin 2 → Nat :=
  let c0_i32_31 : BitVec 32 := 0#32
  let c1_i32_33 : BitVec 32 := 1#32
  let arg10 : BitVec 32 := Scf.iv c0_i32_31 c1_i32_33 k0_t8
  let v28 : Index := Scalar.indexCast arg10
  let c0_35 : Index := 0#32
  ![v28.toNat, 0]
def k0_off33 (k0_t8 : Fin k0_t8_loop.trips) : Fin 2 → Nat :=
  let c0_i32_31 : BitVec 32 := 0#32
  let c1_i32_33 : BitVec 32 := 1#32
  let arg10 : BitVec 32 := Scf.iv c0_i32_31 c1_i32_33 k0_t8
  let v32 : Index := Scalar.indexCast arg10
  let c16_36 : Index := 16#32
  ![v32.toNat, 16]
def k0_off34 (k0_t8 : Fin k0_t8_loop.trips) : Fin 2 → Nat :=
  let c0_i32_31 : BitVec 32 := 0#32
  let c1_i32_33 : BitVec 32 := 1#32
  let arg10 : BitVec 32 := Scf.iv c0_i32_31 c1_i32_33 k0_t8
  let v36 : Index := Scalar.indexCast arg10
  let c32_37 : Index := 32#32
  ![v36.toNat, 32]

def k0_chk8 (v1 : IVec S16 32) (v2 : IVec S16 32) (v3 : IVec S16 32) (v4 : IVec S16 32) (v25 : IVec S16 32) : Prop :=
  (∀ a x, ((![v25, v1] : Fin 2 → IVec S16 32) a x).toNat < S128x256.size a) ∧
  (∀ a x, ((![v25, v2] : Fin 2 → IVec S16 32) a x).toNat < S128x256.size a) ∧
  (∀ a x, ((![v25, v3] : Fin 2 → IVec S16 32) a x).toNat < S128x256.size a) ∧
  (∀ a x, ((![v25, v4] : Fin 2 → IVec S16 32) a x).toNat < S128x256.size a)
theorem k0_idx29_inb : ∀ (v1 : IVec S16 32) (v2 : IVec S16 32) (v3 : IVec S16 32) (v4 : IVec S16 32) (v25 : IVec S16 32) (k0_hw8 : k0_chk8 v1 v2 v3 v4 v25), ∀ a x, ((![v25, v1] : Fin 2 → IVec S16 32) a x).toNat < S128x256.size a := fun v1 v2 v3 v4 v25 k0_hw8 => k0_hw8.1
theorem k0_idx30_inb : ∀ (v1 : IVec S16 32) (v2 : IVec S16 32) (v3 : IVec S16 32) (v4 : IVec S16 32) (v25 : IVec S16 32) (k0_hw8 : k0_chk8 v1 v2 v3 v4 v25), ∀ a x, ((![v25, v2] : Fin 2 → IVec S16 32) a x).toNat < S128x256.size a := fun v1 v2 v3 v4 v25 k0_hw8 => k0_hw8.2.1
theorem k0_idx31_inb : ∀ (v1 : IVec S16 32) (v2 : IVec S16 32) (v3 : IVec S16 32) (v4 : IVec S16 32) (v25 : IVec S16 32) (k0_hw8 : k0_chk8 v1 v2 v3 v4 v25), ∀ a x, ((![v25, v3] : Fin 2 → IVec S16 32) a x).toNat < S128x256.size a := fun v1 v2 v3 v4 v25 k0_hw8 => k0_hw8.2.2.1
theorem k0_idx32_inb : ∀ (v1 : IVec S16 32) (v2 : IVec S16 32) (v3 : IVec S16 32) (v4 : IVec S16 32) (v25 : IVec S16 32) (k0_hw8 : k0_chk8 v1 v2 v3 v4 v25), ∀ a x, ((![v25, v4] : Fin 2 → IVec S16 32) a x).toNat < S128x256.size a := fun v1 v2 v3 v4 v25 k0_hw8 => k0_hw8.2.2.2
def k0_off35 (k0_t8 : Fin k0_t8_loop.trips) : Fin 2 → Nat :=
  let c0_i32_31 : BitVec 32 := 0#32
  let c1_i32_33 : BitVec 32 := 1#32
  let arg10 : BitVec 32 := Scf.iv c0_i32_31 c1_i32_33 k0_t8
  let v40 : Index := Scalar.indexCast arg10
  let c48_38 : Index := 48#32
  ![v40.toNat, 48]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S16384x64 : Shape := ⟨2, ![16384, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S64, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S1x64, .f32⟩
  | .hbm, ⟨27, _⟩ => ⟨S16384x64, .f32⟩
  | .hbm, ⟨28, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Values.lean ====
/-
  The value the kernel computes, stated over plain arrays: column `j` of the result is a column of `y` named by the
  `j`-th index word, scaled by the `j`-th weight. Stated for any number of rows, so that one definition serves the
  whole result and a tile's chunk of 128 rows alike.
-/
module

public import proofs.«01_k».proof.Defs
public import Idealize.ShloMosaic.Lib.Writes
public import Idealize.ShloMosaic.Lib.Pipeline.Value

@[expose] public section

noncomputable section

namespace Cert.Proof.Values

open Idealize.ShloMosaic

/-- A float array of `n` rows and `k` columns is indexed by this shape. -/
abbrev Grid (n k : ℕ) : Shape := ⟨2, ![n, k]⟩
/-- The shape of the index list and of the weights. -/
abbrev List64 : Shape := ⟨1, ![64]⟩
/-- The shape of one vector of lanes. -/
abbrev Lanes : Shape := ⟨1, ![16]⟩

/-- The place at row `r`, column `c`. -/
def cell {n k : ℕ} (r : Fin n) (c : Fin k) : (Grid n k).Idx := fun a => match a with | 0 => r | 1 => c

/-- The place `j` of a list of 64. -/
def spot (j : Fin 64) : List64.Idx := fun a => match a with | 0 => j

/-- The column of `y` that an index word names. -/
def column (b : BitVec 32) : Fin 256 := Fin.ofNat 256 b.toNat

theorem column_val {b : BitVec 32} (h : b.toNat < 256) : (column b).val = b.toNat := Nat.mod_eq_of_lt h

/-- Every index word names a column. -/
def InRange (ix : List64.Idx → BitVec 32) : Prop := ∀ j, (ix j).toNat < 256

variable {F : FTy → Type} [FloatOps F]

/-- The columns of `y` that the words of `ix` name, the `j`-th scaled by the `j`-th weight. -/
def scaledColumns {n : ℕ} (y : (Grid n 256).Idx → F .f32) (ix : List64.Idx → BitVec 32) (w : List64.Idx → F .f32) :
    (Grid n 64).Idx → F .f32 :=
  fun p => FloatOps.mulf (y (cell (n := n) (p 0) (column (ix (spot (p 1)))))) (w (spot (p 1)))

/-- `v` is group `g` of the list `f`: its lane `x` is the list's element `16 g + x`. -/
def Group {α : Type} (f : List64.Idx → α) (g : ℕ) (v : Lanes.Idx → α) : Prop :=
  ∀ (x : Lanes.Idx) (j : Fin 64), j.val = 16 * g + (x 0).val → v x = f (spot j)

/-- `f` agrees with `G` on every row before `k`, and on row `k` before column `n`. -/
def DoneTo {r : ℕ} (G f : (Grid r 64).Idx → F .f32) (k n : ℕ) : Prop :=
  ∀ p : (Grid r 64).Idx, (p 0).val < k ∨ ((p 0).val = k ∧ (p 1).val < n) → f p = G p

omit [FloatOps F] in
/-- Before the first row nothing is asked. -/
theorem doneTo_zero {r : ℕ} (G f : (Grid r 64).Idx → F .f32) : DoneTo G f 0 0 := by
  intro p hp; omega

omit [FloatOps F] in
/-- A row done to its last column is a row done. -/
theorem DoneTo.next {r : ℕ} {G f : (Grid r 64).Idx → F .f32} {k : ℕ} (h : DoneTo G f k 64) : DoneTo G f (k + 1) 0 := by
  intro p hp
  have h1 : (p 1).val < 64 := (p 1).isLt
  exact h p (by omega)

omit [FloatOps F] in
/-- Every row done is the whole array. -/
theorem DoneTo.all {r : ℕ} {G f : (Grid r 64).Idx → F .f32} (h : DoneTo G f r 0) : f = G :=
  funext fun p => h p (.inl (p 0).isLt)

omit [FloatOps F] in
/-- Writing lanes that agree with `G` at row `k`, from column `n` on, extends what is done by 16 columns. -/
theorem DoneTo.write {r : ℕ} {G f f' : (Grid r 64).Idx → F .f32} {k n : ℕ} (h : DoneTo G f k n)
    (hit : ∀ p : (Grid r 64).Idx, (p 0).val = k → n ≤ (p 1).val → (p 1).val < n + 16 → f' p = G p)
    (miss : ∀ p : (Grid r 64).Idx, (p 0).val ≠ k ∨ (p 1).val < n → f' p = f p) : DoneTo G f' k (n + 16) := by
  intro p hp
  by_cases hk : (p 0).val = k ∧ n ≤ (p 1).val
  · exact hit p hk.1 hk.2 (by omega)
  · rw [miss p (by omega)]; exact h p (by omega)

/-- The rows of the result that one chunk fills: 128 of them from row `r` on. -/
def rowsFrom (r : ℕ) : Finset (Grid 16384 64).Idx := Finset.univ.filter fun p => r ≤ (p 0).val ∧ (p 0).val < r + 128

theorem mem_rowsFrom {r : ℕ} {p : (Grid 16384 64).Idx} : p ∈ rowsFrom r ↔ r ≤ (p 0).val ∧ (p 0).val < r + 128 := by
  simp [rowsFrom]

/-- The first row of chunk `c` of tile `i`. -/
def firstRow (t : Fin 16 × Fin 8) : ℕ := 1024 * t.1.val + 128 * t.2.val

/-- No row belongs to two chunks. -/
theorem rowsFrom_disjoint : ∀ s ∈ (Finset.univ : Finset (Fin 16 × Fin 8)), ∀ t ∈ (Finset.univ : Finset (Fin 16 × Fin 8)), s ≠ t →
    Disjoint (rowsFrom (firstRow s)) (rowsFrom (firstRow t)) := by
  intro s _ t _ h
  refine Finset.disjoint_left.mpr fun p hs ht => h ?_
  have h1 := mem_rowsFrom.mp hs
  have h2 := mem_rowsFrom.mp ht
  have b1 := s.2.isLt
  have b2 := t.2.isLt
  unfold firstRow at h1 h2
  exact Prod.ext (Fin.ext (by omega)) (Fin.ext (by omega))

/-- Every row belongs to some chunk of some tile. -/
theorem rowsFrom_cover : (Finset.univ : Finset (Fin 16 × Fin 8)).biUnion (fun t => rowsFrom (firstRow t)) = Finset.univ := by
  refine Finset.eq_univ_iff_forall.mpr fun p => Finset.mem_biUnion.mpr ?_
  have hp : (p 0).val < 16384 := (p 0).isLt
  refine ⟨(⟨(p 0).val / 1024, by omega⟩, ⟨(p 0).val % 1024 / 128, by omega⟩), Finset.mem_univ _, mem_rowsFrom.mpr ?_⟩
  show 1024 * ((p 0).val / 1024) + 128 * ((p 0).val % 1024 / 128) ≤ (p 0).val
    ∧ (p 0).val < 1024 * ((p 0).val / 1024) + 128 * ((p 0).val % 1024 / 128) + 128
  omega

end Cert.Proof.Values

end
-- ==== Proof.KernelIdealTrip.lean ====
/-
  One row of a tile's chunk: the kernel's loop body, run once, fills one row of the tile's output scratch with the
  scaled columns of the same row of its input scratch.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen Cert.Proof.Values

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The arrays and a tile's scratch -/

abbrev yV : Memref sig .scVector .hbm S16384x256 .f32 := Memref.whole main_arg0_scv
abbrev wV : Memref sig .scVector .hbm S64 .f32 := Memref.whole main_arg1_scv
abbrev ixV : Memref sig .scVector .hbm S64 .i32 := Memref.whole main_arg2_scv
abbrev oV : Memref sig .scVector .hbm S16384x64 .f32 := Memref.whole main_v0_scv
/-- A tile's scratch: the index words, the weights, the rows fetched, the rows computed. -/
abbrev sIx : Memref sig .scVector .vmem S64 .i32 := Memref.whole cc0_scratch0
abbrev sW : Memref sig .scVector .vmem S64 .f32 := Memref.whole cc0_scratch1
abbrev sIn : Memref sig .scVector .vmem S128x256 .f32 := Memref.whole cc0_scratch2
abbrev sOut : Memref sig .scVector .vmem S128x64 .f32 := Memref.whole cc0_scratch3

variable [FloatOps F]

section Trip

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The input scratch holds `fin`, the output scratch holds a filling that is done to row `k`, column `n`. -/
def RowAt (fin : (Grid 128 256).Idx → F .f32) (G : (Grid 128 64).Idx → F .f32) (k n : ℕ) : sProp 𝕄 :=
  iprop((sIn.view.loc (thr d L) ↦{fullShare} fin)
    ∗ ∃ f : (Grid 128 64).Idx → F .f32, ⌜DoneTo G f k n⌝ ∗ (sOut.view.loc (thr d L) ↦{fullShare} f))

omit [FloatOps F] in
/-- Sixteen lanes stored at row `k` from column `n`: what is done grows by those columns. -/
theorem doneTo_store {G f : (Grid 128 64).Idx → F .f32} {k n : ℕ} (h : DoneTo G f k n) {off : Fin 2 → ℕ}
    (hoff : off = ![k, n]) (inb : ∀ a, off a + S1x16.size a ≤ S128x64.size a) (pay : FVec F S16 .f32)
    (hpay : ∀ (x : S16.Idx) (p : (Grid 128 64).Idx), (p 0).val = k → (p 1).val = n + (x 0).val → pay x = G p) :
    DoneTo G ((sOut.access (Rect.unit (s := S128x64) off S1x16.size inb)).write (Elt F) f
      (shapeCast S1x16 pay shapeCasts_S16_S1x16) Finset.univ) k (n + 16) := by
  subst hoff
  refine h.write (fun p h0 h1 h2 => ?_) (fun p hp => ?_)
  · let x : S1x16.Idx := fun a => match a with | 0 => ⟨0, by decide⟩ | 1 => ⟨(p 1).val - n, by show _ < 16; omega⟩
    refine (View.read_writes_cons_hit_of_coords (Val := Elt F) sOut.view f (Rect.unit (s := S128x64) ![k, n] S1x16.size inb)
      (shapeCast S1x16 pay shapeCasts_S16_S1x16) [] x p ?_).trans ?_
    · intro a
      match a with
      | 0 => show (p 0).val = k + 1 * 0; omega
      | 1 => show (p 1).val = n + 1 * ((p 1).val - n); omega
    · refine (shapeCast_addUnit_apply ![16] pay shapeCasts_S16_S1x16 x).trans (hpay _ p h0 ?_)
      show (p 1).val = n + ((p 1).val - n)
      omega
  · rcases hp with hp | hp
    · exact View.read_writes_cons_miss_of_axis (Val := Elt F) sOut.view f ⟨Rect.unit (s := S128x64) ![k, n] S1x16.size inb,
        shapeCast S1x16 pay shapeCasts_S16_S1x16⟩ [] p 0 k 1 rfl rfl rfl (by omega)
    · exact View.read_writes_cons_miss_of_axis (Val := Elt F) sOut.view f ⟨Rect.unit (s := S128x64) ![k, n] S1x16.size inb,
        shapeCast S1x16 pay shapeCasts_S16_S1x16⟩ [] p 1 n 16 rfl rfl rfl (.inl hp)

omit [FloatOps F] in
/-- The place an indexed load reads for lane `x` of group `g` in row `k` is the row's place in the named column. -/
theorem idxAt_cell {ix : List64.Idx → BitVec 32} {k g : ℕ} {row : BitVec 32} {v : IVec S16 32} (hv : Group ix g v) (hrow : row.toNat = k)
    (hin : ∀ a x, ((![broadcast S16 row, v] : Fin 2 → IVec S16 32) a x).toNat < S128x256.size a) (x : S16.Idx)
    (p : (Grid 128 64).Idx) (h0 : (p 0).val = k) (h1 : (p 1).val = 16 * g + (x 0).val) :
    idxAt (s := S128x256) ![broadcast S16 row, v] hin x = cell (n := 128) (p 0) (column (ix (spot (p 1)))) := by
  have hc : (v x).toNat < 256 := hin 1 x
  have hvx : v x = ix (spot (p 1)) := hv x (p 1) h1
  have hcol : (v x).toNat = (column (ix (spot (p 1)))).val := by rw [column_val (hvx ▸ hc), hvx]
  funext a
  match a with
  | 0 => exact Fin.ext (hrow.trans h0.symm)
  | 1 => exact Fin.ext hcol

omit [FloatOps F] in
/-- A store's rectangle is held where the whole scratch is. -/
theorem pts_access (r : Rect S128x64) (f : Buf (Elt F) ((thr d L).loc cc0_scratch3)) :
    ((sOut.access r).loc (thr d L) ↦{fullShare} f : sProp 𝕄) = sOut.view.loc (thr d L) ↦{fullShare} f := rfl

omit [FloatOps F] in
theorem rowAt_intro {fin : (Grid 128 256).Idx → F .f32} {G f : (Grid 128 64).Idx → F .f32} {k n : ℕ} (hf : DoneTo G f k n) :
    iprop((sIn.view.loc (thr d L) ↦{fullShare} fin) ∗ (sOut.view.loc (thr d L) ↦{fullShare} f)) ⊢ RowAt d L fin G k n := by
  unfold RowAt
  iintro ⟨Hin, Hout⟩
  isplitl [Hin]; · iexact Hin
  iexists f; isplitr
  · ipureintro; exact hf
  · iexact Hout

omit [FloatOps F] in
theorem rowAt_elim {fin : (Grid 128 256).Idx → F .f32} {G : (Grid 128 64).Idx → F .f32} {k n : ℕ} :
    RowAt d L fin G k n ⊢ iprop((sIn.view.loc (thr d L) ↦{fullShare} fin)
      ∗ ∃ f : (Grid 128 64).Idx → F .f32, ⌜DoneTo G f k n⌝ ∗ (sOut.view.loc (thr d L) ↦{fullShare} f)) := by
  exact Entails.of_eq rfl

omit [FloatOps F] in
/-- Reading the input scratch through its whole rectangle reads the scratch. -/
theorem read_in_whole (fin : (Grid 128 256).Idx → F .f32) : (sIn.access (.whole S128x256)).read (Elt F) fin = fin :=
  Memref.read_access_whole (Elt F) cc0_scratch2 fin

/-- One group of sixteen columns: the indexed load of row `k` at the group's index words, the load the store is paired
    with, and the store of the loaded lanes scaled by the group's weights. -/
theorem group_wp {fin : (Grid 128 256).Idx → F .f32} {ix : List64.Idx → BitVec 32} {w : List64.Idx → F .f32} {k g : ℕ}
    (row : BitVec 32) (hrow : row.toNat = k) (v : IVec S16 32) (vw : FVec F S16 .f32)
    (hv : Group ix g v) (hvw : Group w g vw) (pay : FVec F S16 .f32 → FVec F S16 .f32) (hpay : ∀ u, pay u = mulf u vw)
    (off : Fin 2 → ℕ) (hoff : off = ![k, 16 * g]) (inb : ∀ a, off a + S1x16.size a ≤ S128x64.size a)
    (hin : ∀ a x, ((![broadcast S16 row, v] : Fin 2 → IVec S16 32) a x).toNat < S128x256.size a)
    {hl : (sIn.view).Loads} {hla : sOut.view.LoadsAt (Rect.unit (s := S128x64) off S1x16.size inb).toLoadRect}
    {hs : (sOut.access (Rect.unit (s := S128x64) off S1x16.size inb)).Stores Finset.univ}
    {hm : (Finset.univ : Finset (Rect.unit (s := S128x64) off S1x16.size inb).shape.Idx) = Finset.univ ∨ ∀ a, (Rect.unit (s := S128x64) off S1x16.size inb).stride a = 1}
    {α : Type} {κ : PUnit → Prog (TpuEff nD τ sig (Elt F) Λ₀ (thr d L).2) α} {Q : α → sProp 𝕄} :
    RowAt d L fin (scaledColumns fin ix w) k (16 * g)
      ⊢ iprop((RowAt d L fin (scaledColumns fin ix w) k (16 * (g + 1))
            -∗ wp frame (wpE (defs₀ (F := F)) 𝒱₀ (thr d L) none) Set.univ (κ ⟨⟩) Q)
        -∗ wp frame (wpE (defs₀ (F := F)) 𝒱₀ (thr d L) none) Set.univ
          (SparseCore.vectorLoadIdx (F := F) (e := .f32) sIn ![broadcast S16 row, v] hin hl >>= fun u =>
            .op (.load sOut (Rect.unit (s := S128x64) off S1x16.size inb).toLoadRect hla) fun _ =>
              .op (.store sOut (Rect.unit (s := S128x64) off S1x16.size inb) (shapeCast S1x16 (pay u) shapeCasts_S16_S1x16) Finset.univ hs hm) κ) Q) := by
  iintro H Hκ
  ihave H' := (rowAt_elim d L) $$ H
  icases H' with ⟨Hin, %f, %hf, Hout⟩
  have hnew := doneTo_store hf hoff inb (pay (loadIdx (F := F) (e := .f32) fin ![broadcast S16 row, v] hin)) fun x p h0 h1 => by
    rw [hpay]
    show FloatOps.mulf (fin (idxAt ![broadcast S16 row, v] hin x)) (vw x) = _
    rw [scaledColumns, hvw x (p 1) h1, idxAt_cell hv hrow hin x p h0 h1]
  iapply (SparseCore.wp_vectorLoadIdx 𝒱₀ (thr d L) none Set.univ (base := sIn) (S := Finset.univ) (q := fullShare) (f := fin) (Finset.subset_univ _)) $$ Hin
  iintro Hin
  rw [read_in_whole]
  iapply (wp_load 𝒱₀ (thr d L) none Set.univ (m := sOut) (S := Finset.univ) (Finset.subset_univ _)) $$ Hout
  iintro Hout
  iapply (wp_store 𝒱₀ (thr d L) none Set.univ (m := sOut)
    (r := Rect.unit (s := S128x64) off S1x16.size inb) (f := f) (Mk := Finset.univ) (S := Finset.univ) (Finset.subset_univ _)) $$ Hout
  iintro Hout
  ihave Hout' := (Entails.of_eq (pts_access d L _ _)) $$ Hout
  iapply Hκ
  iapply (rowAt_intro d L (n := 16 * (g + 1)) hnew) $$ [Hin Hout']
  isplitl [Hin]; · iexact Hin
  iexact Hout'

/-- The row and the group's index words name places of the input scratch. -/
theorem names_place {ix : List64.Idx → BitVec 32} (hix : InRange ix) {g : ℕ} (hg : g < 4) {v : IVec S16 32} (hv : Group ix g v)
    {row : BitVec 32} (hrow : row.toNat < 128) :
    ∀ a x, ((![broadcast S16 row, v] : Fin 2 → IVec S16 32) a x).toNat < S128x256.size a := by
  intro a x
  match a with
  | 0 => exact hrow
  | 1 =>
    have hx : (x 0).val < 16 := (x 0).isLt
    show (v x).toNat < 256
    rw [hv x ⟨16 * g + (x 0).val, by omega⟩ rfl]
    exact hix _

omit [FloatOps F] in
theorem row_word (k : Fin k0_t1_loop.trips) : (Scf.iv 0#32 1#32 k : BitVec 32).toNat = k.val := by
  revert k; decide +kernel

omit [FloatOps F] in
theorem row_lt (k : Fin k0_t1_loop.trips) : k.val < 128 := k.isLt

/-- One trip: row `k` of the output scratch becomes the scaled columns of row `k` of the input scratch. -/
theorem trip_wp {fin : (Grid 128 256).Idx → F .f32} {ix : List64.Idx → BitVec 32} {w : List64.Idx → F .f32} (hix : InRange ix)
    {v1 v2 v3 v4 : Vec F S16 .i32} {v5 v6 v7 v8 : Vec F S16 .f32}
    (h1 : Group ix 0 v1) (h2 : Group ix 1 v2) (h3 : Group ix 2 v3) (h4 : Group ix 3 v4)
    (h5 : Group w 0 v5) (h6 : Group w 1 v6) (h7 : Group w 2 v7) (h8 : Group w 3 v8)
    (e0 e1 e2 e3 e4 e5 e6 e7 e8 e9 e10 e11 e12 e13 e14 e15 e16 e17 : DmaSems sig S_) (k : Fin k0_t1_loop.trips) (u : Unit) :
    RowAt d L fin (scaledColumns fin ix w) k 0
      ⊢ wp frame (wpE (defs₀ (F := F)) 𝒱₀ (thr d L) none) Set.univ
          (k0_t1_body L yV (Memref.isWhole_whole _) wV (Memref.isWhole_whole _) ixV (Memref.isWhole_whole _) oV (Memref.isWhole_whole _)
            sIx (Memref.isWhole_whole _) sW (Memref.isWhole_whole _) sIn (Memref.isWhole_whole _) sOut (Memref.isWhole_whole _)
            e0 e1 e2 e3 e4 e5 e6 e7 e8 e9 e10 e11 e12 e13 e14 e15 e16 e17 v1 v2 v3 v4 v5 v6 v7 v8 k u)
          fun _ => RowAt d L fin (scaledColumns fin ix w) (k + 1) 0 := by
  have hk : (Scf.iv 0#32 1#32 k : BitVec 32).toNat < 128 := (row_word k).trans_lt (row_lt k)
  have hchk : k0_chk1 v1 v2 v3 v4 (broadcast S16 (Scf.iv 0#32 1#32 k)) :=
    ⟨names_place hix (by decide) h1 hk, names_place hix (by decide) h2 hk, names_place hix (by decide) h3 hk, names_place hix (by decide) h4 hk⟩
  unfold k0_t1_body
  simp only [Prog.lift, Prog.bind_op, Prog.bind_ret, Prog.pure_eq_ret]
  rw [wp_assume_of _ _ _ _ hchk]
  iintro H
  iapply (group_wp d L (g := 0) _ (row_word k) v1 v5 h1 h5 (k0_pay1 v5) (fun _ => rfl) _ (k0_off2_eq k)) $$ H
  iintro H
  iapply (group_wp d L (g := 1) _ (row_word k) v2 v6 h2 h6 (k0_pay2 v6) (fun _ => rfl) _ (k0_off3_eq k)) $$ H
  iintro H
  iapply (group_wp d L (g := 2) _ (row_word k) v3 v7 h3 h7 (k0_pay3 v7) (fun _ => rfl) _ (k0_off4_eq k)) $$ H
  iintro H
  iapply (group_wp d L (g := 3) _ (row_word k) v4 v8 h4 h8 (k0_pay4 v8) (fun _ => rfl) _ (k0_off5_eq k)) $$ H
  iintro H
  rw [wp_ret]; imodintro
  unfold RowAt
  icases H with ⟨Hin, %f, %hf, Hout⟩
  isplitl [Hin]; · iexact Hin
  iexists f; isplitr
  · ipureintro; exact hf.next
  · iexact Hout

end Trip

end Cert.Proof.KernelIdealRun

end
-- ==== Proof.KernelIdealChunk.lean ====
/-
  One chunk of 128 rows of a tile's work: the rows fetched, the loop over them, the computed rows written out. The
  kernel does this eight times, with other offsets and other semaphores; here it is proved once for any of them.
-/
module

public import proofs.«01_k».proof.Proof.KernelIdealTrip

@[expose] public section

noncomputable section

namespace Cert.Proof.KernelIdealRun

open Cert.KernelIdeal Cert.KernelIdeal.Gen Cert.Proof.Values

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The rows of the input a chunk fetches, at the offsets `off`. -/
abbrev inRows (off : Fin 2 → ℕ) (inb : ∀ a, off a + S128x256.size a ≤ S16384x256.size a) : Memref sig .scVector .hbm S128x256 .f32 :=
  yV.slice (Rect.unit (s := S16384x256) off S128x256.size inb) (fun _ => rfl)
/-- The rows of the result a chunk writes, at the offsets `off`. -/
abbrev outRows (off : Fin 2 → ℕ) (inb : ∀ a, off a + S128x64.size a ≤ S16384x64.size a) : Memref sig .scVector .hbm S128x64 .f32 :=
  oV.slice (Rect.unit (s := S16384x64) off S128x64.size inb) (fun _ => rfl)

/-- What the tile owes its launch, after any number of waits that are none of the launch's own. -/
def Owing (O : CellTallies nD τ sig (HIx 1)) (W : Waits sig (HIx 1)) : sProp 𝕄 :=
  iprop(∃ W', ⌜∀ p ∈ W', p ∈ W ∨ p.2 = none⌝ ∗ owes (thr d L) O W')

/-- What a tile keeps from chunk to chunk: its share of the input, its two scratches at some contents, the evidence for
    its waits and what it owes. -/
def Keep (q : PosShare TreeShare) (y : (Grid 16384 256).Idx → F .f32) (O : CellTallies nD τ sig (HIx 1)) (W : Waits sig (HIx 1)) : sProp 𝕄 :=
  iprop(Transfers.MayWaits (thr d L) (none : HIx 1) O ∗ (yV.view.loc (thr d L) ↦{q} y)
    ∗ (∃ f : (Grid 128 256).Idx → F .f32, sIn.view.loc (thr d L) ↦{fullShare} f)
    ∗ (∃ f : (Grid 128 64).Idx → F .f32, sOut.view.loc (thr d L) ↦{fullShare} f) ∗ Owing d L O W)

/-- The loop over the chunk's rows, from the input scratch at `fin`: the output scratch is left at the scaled columns. -/
theorem loop_wp {fin : (Grid 128 256).Idx → F .f32} {G : (Grid 128 64).Idx → F .f32}
    (body : Fin k0_t1_loop.trips → Unit → Prog (TpuEff nD τ sig (Elt F) Λ₀ (thr d L).2) Unit)
    (hbody : ∀ k u, RowAt d L fin G k.val 0
      ⊢ wp frame (wpE (defs₀ (F := F)) 𝒱₀ (thr d L) none) Set.univ (body k u) fun _ => RowAt d L fin G (k.val + 1) 0)
    {α : Type} {κ : Unit → Prog (TpuEff nD τ sig (Elt F) Λ₀ (thr d L).2) α} {Q : α → sProp 𝕄} :
    iprop((sIn.view.loc (thr d L) ↦{fullShare} fin) ∗ ∃ f : (Grid 128 64).Idx → F .f32, sOut.view.loc (thr d L) ↦{fullShare} f)
      ⊢ iprop((iprop((sIn.view.loc (thr d L) ↦{fullShare} fin) ∗ (sOut.view.loc (thr d L) ↦{fullShare} G))
            -∗ wp frame (wpE (defs₀ (F := F)) 𝒱₀ (thr d L) none) Set.univ (κ ⟨⟩) Q)
        -∗ wp frame (wpE (defs₀ (F := F)) 𝒱₀ (thr d L) none) Set.univ (Scf.Loop.for k0_t1_loop k0_t1_ok ⟨⟩ body >>= κ) Q) := by
  iintro ⟨Hin, %f, Hout⟩ Hκ
  ihave H := (rowAt_intro d L (doneTo_zero G f)) $$ [Hin Hout]
  · isplitl [Hin]; · iexact Hin
    iexact Hout
  iapply (Scf.wp_for_bind _ _ _ _ _ _ k0_t1_ok ⟨⟩ body (fun k _ => RowAt d L fin G k 0) hbody) $$ H
  iintro %u H
  ihave H' := (rowAt_elim d L) $$ H
  icases H' with ⟨Hin, %f', %hf', Hout⟩
  obtain rfl : f' = G := DoneTo.all (r := 128) hf'
  iapply Hκ
  isplitl [Hin]; · iexact Hin
  iexact Hout

/-- Where the chunk's rows of the result are written, they are the scaled columns of the whole input. -/
theorem rows_written {y : (Grid 16384 256).Idx → F .f32} {ix : List64.Idx → BitVec 32} {w : List64.Idx → F .f32} (r : ℕ)
    {offI offO : Fin 2 → ℕ} (hI : offI = ![r, 0]) (hO : offO = ![r, 0])
    {inbI : ∀ a, offI a + S128x256.size a ≤ S16384x256.size a} {inbO : ∀ a, offO a + S128x64.size a ≤ S16384x64.size a}
    (g : (Grid 16384 64).Idx → F .f32) (i : (Grid 16384 64).Idx) (hi : i ∈ (outRows offO inbO).view.set) :
    (outRows offO inbO).view.writes (Elt F) g
        [⟨Rect.whole S128x64, sOut.view.read (Elt F) (scaledColumns (n := 128) ((inRows offI inbI).view.read (Elt F) y) ix w)⟩] i
      = scaledColumns y ix w i := by
  subst hI hO
  obtain ⟨x, rfl⟩ := View.exists_emb_of_mem_set _ hi
  refine (View.read_writes_cons_hit (Val := Elt F) (outRows ![r, 0] inbO).view g (Rect.whole S128x64) _ [] x x (Rect.emb_whole_apply S128x64 x)).trans ?_
  have h0 : (((outRows ![r, 0] inbO).view.emb x) 0).val = r + 1 * (x 0).val := rfl
  have h1 : ((outRows ![r, 0] inbO).view.emb x) 1 = x 1 := Fin.ext (show 0 + 1 * (x 1).val = (x 1).val by omega)
  have hc : ∀ c : Fin 256, (inRows ![r, 0] inbI).view.emb (cell (n := 128) (k := 256) (x 0) c)
      = cell (n := 16384) (k := 256) (((outRows ![r, 0] inbO).view.emb x) 0) c := fun c => by
    funext a
    match a with
    | 0 => exact Fin.ext h0.symm
    | 1 => exact Fin.ext (show 0 + 1 * c.val = c.val by omega)
  show FloatOps.mulf (y ((inRows ![r, 0] inbI).view.emb (cell (n := 128) (k := 256) (x 0) (column (ix (spot (x 1))))))) (w (spot (x 1)))
    = FloatOps.mulf (y (cell (n := 16384) (k := 256) (((outRows ![r, 0] inbO).view.emb x) 0) (column (ix (spot (((outRows ![r, 0] inbO).view.emb x) 1))))))
        (w (spot (((outRows ![r, 0] inbO).view.emb x) 1)))
  rw [h1, hc]

/-- The rows of the result a chunk writes are the 128 from its offset on. -/
theorem outRows_set {r : ℕ} {off : Fin 2 → ℕ} (hO : off = ![r, 0]) (inb : ∀ a, off a + S128x64.size a ≤ S16384x64.size a) :
    (outRows off inb).view.set = rowsFrom r := by
  subst hO
  have e : (outRows ![r, 0] inb).view.set = (Rect.unit (s := S16384x64) ![r, 0] S128x64.size inb).set := by
    refine (View.set_slice _ _).trans ?_
    exact Finset.map_refl
  rw [e]
  ext p
  rw [Rect.mem_set_unit, mem_rowsFrom, Fin.forall_fin_two]
  have hp : (p 1).val < 64 := (p 1).isLt
  show ((r ≤ (p 0).val ∧ (p 0).val < r + 128) ∧ (0 ≤ (p 1).val ∧ (p 1).val < 0 + 64)) ↔ _
  constructor
  · exact fun h => h.1
  · exact fun h => ⟨h, by omega⟩

/-- The same rows, held as the copy addresses them. -/
theorem pts_outRows {r : ℕ} {off : Fin 2 → ℕ} (hO : off = ![r, 0]) (inb : ∀ a, off a + S128x64.size a ≤ S16384x64.size a)
    (g : (Grid 16384 64).Idx → F .f32) :
    (oV.view.loc (thr d L) ↦[rowsFrom r]{fullShare} g : sProp 𝕄)
      = ((outRows off inb).view.loc (thr d L) ↦[(outRows off inb).view.set]{fullShare} g) := by
  rw [outRows_set hO inb]

/-- A chunk of 128 rows from row `r` on: fetched, computed and written out, whatever the two copies' semaphores. The rows
    of the result end at the scaled columns of the input; everything else comes back as it was lent. -/
theorem chunk_wp {q : PosShare TreeShare} {y : (Grid 16384 256).Idx → F .f32} {ix : List64.Idx → BitVec 32} {w : List64.Idx → F .f32}
    {O : CellTallies nD τ sig (HIx 1)} {W : Waits sig (HIx 1)} (r : ℕ)
    {offI offO : Fin 2 → ℕ} (hI : offI = ![r, 0]) (hO : offO = ![r, 0])
    {inbI : ∀ a, offI a + S128x256.size a ≤ S16384x256.size a} {inbO : ∀ a, offO a + S128x64.size a ≤ S16384x64.size a}
    (a b : DmaSems sig S_)
    (body : Fin k0_t1_loop.trips → Unit → Prog (TpuEff nD τ sig (Elt F) Λ₀ (thr d L).2) Unit)
    (hbody : ∀ fin k u, RowAt d L fin (scaledColumns fin ix w) k.val 0
      ⊢ wp frame (wpE (defs₀ (F := F)) 𝒱₀ (thr d L) none) Set.univ (body k u) fun _ => RowAt d L fin (scaledColumns fin ix w) (k.val + 1) 0)
    {g : (Grid 16384 64).Idx → F .f32}
    {α : Type} {κ : PUnit → Prog (TpuEff nD τ sig (Elt F) Λ₀ (thr d L).2) α} {Q : α → sProp 𝕄}
    {hs1 : (inRows offI inbI).view.WordExact} {hd1 : sIn.view.WordExact} {hx1 hw1 hw2 hs2 hd2 hx2 hw3 hw4} :
    Keep d L q y O W ⊢ iprop((oV.view.loc (thr d L) ↦[rowsFrom r]{fullShare} g)
        -∗ semVal (thr d L, SemLoc.dma a.sem) 0 -∗ semVal (thr d L, SemLoc.dma b.sem) 0
        -∗ (iprop(Keep d L q y O W
            ∗ (oV.view.loc (thr d L) ↦[rowsFrom r]{fullShare} (scaledColumns y ix w : (Grid 16384 64).Idx → F .f32))
            ∗ semVal (thr d L, SemLoc.dma a.sem) 0 ∗ semVal (thr d L, SemLoc.dma b.sem) 0)
            -∗ wp frame (wpE (defs₀ (F := F)) 𝒱₀ (thr d L) none) Set.univ (κ ⟨⟩) Q)
        -∗ wp frame (wpE (defs₀ (F := F)) 𝒱₀ (thr d L) none) Set.univ
          (.op (.enqueueDma (inRows offI inbI) (.here sIn) (.dma a.sem) hs1 hd1 hx1) fun _ =>
            .op (.waitDma2 a.sem (inRows offI inbI) sIn hw1 hw2) fun _ =>
              Scf.Loop.for k0_t1_loop k0_t1_ok ⟨⟩ body >>= fun _ =>
                .op (.enqueueDma sOut (.here (outRows offO inbO)) (.dma b.sem) hs2 hd2 hx2) fun _ =>
                  .op (.waitDma2 b.sem sOut (outRows offO inbO) hw3 hw4) κ) Q) := by
  rw [pts_outRows d L hO inbO, pts_outRows d L hO inbO]
  unfold Keep Owing
  iintro ⟨#Hmw, Hy, ⟨%f0, Hin⟩, ⟨%g0, Hout⟩, %W', %hW', HO⟩ Ho Ha Hb Hκ
  sl_exec (disch := exact View.amount_pos _ _ (show 0 < S128x256.numel by decide))
  sl_unfold_run_names
  ihave Hin' := (Entails.of_eq (congrArg (fun f => (sIn.view.loc (thr d L) ↦{fullShare} f : sProp 𝕄))
    (View.write_whole_univ (Val := Elt F) cc0_scratch2 f0 ((inRows offI inbI).view.read (Elt F) y)))) $$ Hin
  iapply (loop_wp d L body (hbody _)) $$ [Hin' Hout]
  · isplitl [Hin']; · iexact Hin'
    iexists g0; iexact Hout
  iintro ⟨Hin, Hout⟩
  sl_exec (disch := exact View.amount_pos _ _ (show 0 < S128x64.numel by decide))
  sl_unfold_run_names
  ihave Ho' := (Entails.of_eq (pointsTo_congr (rows_written r hI hO g))) $$ Ho
  iapply Hκ
  isplitr [Ho' Ha Hb]
  · isplitr; · iexact Hmw
    isplitl [Hy]; · iexact Hy
    isplitl [Hin]; · iexists _; iexact Hin
    isplitl [Hout]; · iexists _; iexact Hout
    iexists (insert (SemLoc.dma b.sem, (none : HIx 1)) (insert (SemLoc.dma a.sem, (none : HIx 1)) W')); isplitr
    · ipureintro; intro p hp
      rcases Finset.mem_insert.mp hp with rfl | hp
      · exact .inr rfl
      rcases Finset.mem_insert.mp hp with rfl | hp
      · exact .inr rfl
      · exact hW' p hp
    · iexact HO
  isplitl [Ho']; · iexact Ho'
  isplitl [Ha]; · iexact Ha
  iexact Hb

end Cert.Proof.KernelIdealRun

end
-- ==== Proof.KernelIdealTile.lean ====
/-
  A tile's whole task: the index words and the weights fetched into its scratch and loaded, then its eight chunks of 128
  rows one after another.
-/
module

public import proofs.«01_k».proof.Proof.KernelIdealChunk

@[expose] public section

noncomputable section

namespace Cert.Proof.KernelIdealRun

open Cert.KernelIdeal Cert.KernelIdeal.Gen Cert.Proof.Values

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The head of the task: the index words and the weights -/

/-- Sixteen lanes loaded from a list of 64 at `16 g` are its group `g`. -/
theorem group_of_load {α : Type} {f : List64.Idx → α} {g : ℕ} {off : Fin 1 → ℕ} (hoff : off = ![16 * g])
    (inb : ∀ a, off a + S16.size a ≤ S64.size a) : Group f g fun x : S16.Idx => f ((Rect.unit (s := S64) off S16.size inb).emb x) := by
  subst hoff
  intro x j hj
  refine congrArg f (funext fun a => ?_)
  match a with
  | 0 => exact Fin.ext (by show 16 * g + 1 * (x 0).val = j.val; omega)

/-- The index scratch, once fetched, loads group `g` of the index words at `16 g`. -/
theorem load_ix {ix f : List64.Idx → BitVec 32} {g : ℕ} {off : Fin 1 → ℕ} (hoff : off = ![16 * g])
    (inb : ∀ a, off a + S16.size a ≤ S64.size a) :
    Group ix g (sIx.view.readAt (Elt F) (Rect.unit (s := S64) off S16.size inb).toLoadRect
      (sIx.view.write (Elt F) f (ReadAs.same.apply (ixV.view.read (Elt F) ix)) Finset.univ)) := by
  rw [show sIx.view.write (Elt F) f (ReadAs.same.apply (ixV.view.read (Elt F) ix)) Finset.univ = ix from
    View.write_whole_univ (Val := Elt F) cc0_scratch0 f ix]
  exact group_of_load hoff inb

/-- The weight scratch likewise. -/
theorem load_w {w f : List64.Idx → F .f32} {g : ℕ} {off : Fin 1 → ℕ} (hoff : off = ![16 * g])
    (inb : ∀ a, off a + S16.size a ≤ S64.size a) :
    Group w g (sW.view.readAt (Elt F) (Rect.unit (s := S64) off S16.size inb).toLoadRect
      (sW.view.write (Elt F) f (ReadAs.same.apply (wV.view.read (Elt F) w)) Finset.univ)) := by
  rw [show sW.view.write (Elt F) f (ReadAs.same.apply (wV.view.read (Elt F) w)) Finset.univ = w from
    View.write_whole_univ (Val := Elt F) cc0_scratch1 f w]
  exact group_of_load hoff inb

/-- A tile fetches the index words and the weights and loads them, four groups each, into eight vectors. -/
theorem head_wp {qw qi : PosShare TreeShare} {ix : List64.Idx → BitVec 32} {w : List64.Idx → F .f32}
    {O : CellTallies nD τ sig (HIx 1)} {W : Waits sig (HIx 1)} (a b : DmaSems sig S_)
    {α : Type} {κ : Vec F S16 .i32 → Vec F S16 .i32 → Vec F S16 .i32 → Vec F S16 .i32 → Vec F S16 .f32 → Vec F S16 .f32 → Vec F S16 .f32 → Vec F S16 .f32
      → Prog (TpuEff nD τ sig (Elt F) Λ₀ (thr d L).2) α} {Q : α → sProp 𝕄}
    {hs1 hd1 hx1 hw1 hw2 hs2 hd2 hx2 hw3 hw4 l1 l2 l3 l4 l5 l6 l7 l8} :
    iprop(Transfers.MayWaits (thr d L) (none : HIx 1) O ∗ (wV.view.loc (thr d L) ↦{qw} w) ∗ (ixV.view.loc (thr d L) ↦{qi} ix)
        ∗ (∃ f : List64.Idx → BitVec 32, sIx.view.loc (thr d L) ↦{fullShare} f) ∗ (∃ f : List64.Idx → F .f32, sW.view.loc (thr d L) ↦{fullShare} f)
        ∗ semVal (thr d L, SemLoc.dma a.sem) 0 ∗ semVal (thr d L, SemLoc.dma b.sem) 0 ∗ owes (thr d L) O W)
      ⊢ iprop((∀ v1 v2 v3 v4 v5 v6 v7 v8,
            ⌜(Group ix 0 v1 ∧ Group ix 1 v2 ∧ Group ix 2 v3 ∧ Group ix 3 v4) ∧ Group w 0 v5 ∧ Group w 1 v6 ∧ Group w 2 v7 ∧ Group w 3 v8⌝
            -∗ iprop((wV.view.loc (thr d L) ↦{qw} w) ∗ (ixV.view.loc (thr d L) ↦{qi} ix)
              ∗ (∃ f : List64.Idx → BitVec 32, sIx.view.loc (thr d L) ↦{fullShare} f) ∗ (∃ f : List64.Idx → F .f32, sW.view.loc (thr d L) ↦{fullShare} f)
              ∗ semVal (thr d L, SemLoc.dma a.sem) 0 ∗ semVal (thr d L, SemLoc.dma b.sem) 0 ∗ Owing d L O W)
            -∗ wp frame (wpE (defs₀ (F := F)) 𝒱₀ (thr d L) none) Set.univ (κ v1 v2 v3 v4 v5 v6 v7 v8) Q)
        -∗ wp frame (wpE (defs₀ (F := F)) 𝒱₀ (thr d L) none) Set.univ
          (.op (.enqueueDma ixV (.here sIx) (.dma a.sem) hs1 hd1 hx1) fun _ => .op (.waitDma2 a.sem ixV sIx hw1 hw2) fun _ =>
            .op (.enqueueDma wV (.here sW) (.dma b.sem) hs2 hd2 hx2) fun _ => .op (.waitDma2 b.sem wV sW hw3 hw4) fun _ =>
            .op (.load sIx (Rect.unit (s := S64) ![0] S16.size inb_S64_S16_0).toLoadRect l1) fun v1 =>
            .op (.load sIx (Rect.unit (s := S64) ![16] S16.size inb_S64_S16_16).toLoadRect l2) fun v2 =>
            .op (.load sIx (Rect.unit (s := S64) ![32] S16.size inb_S64_S16_32).toLoadRect l3) fun v3 =>
            .op (.load sIx (Rect.unit (s := S64) ![48] S16.size inb_S64_S16_48).toLoadRect l4) fun v4 =>
            .op (.load sW (Rect.unit (s := S64) ![0] S16.size inb_S64_S16_0).toLoadRect l5) fun v5 =>
            .op (.load sW (Rect.unit (s := S64) ![16] S16.size inb_S64_S16_16).toLoadRect l6) fun v6 =>
            .op (.load sW (Rect.unit (s := S64) ![32] S16.size inb_S64_S16_32).toLoadRect l7) fun v7 =>
            .op (.load sW (Rect.unit (s := S64) ![48] S16.size inb_S64_S16_48).toLoadRect l8) fun v8 => κ v1 v2 v3 v4 v5 v6 v7 v8) Q) := by
  iintro ⟨#Hmw, Hw, Hix, ⟨%f0, Hsx⟩, ⟨%g0, Hsw⟩, Ha, Hb, HO⟩ Hκ
  sl_exec
  sl_unfold_run_names
  iapply Hκ $$ %_ %_ %_ %_ %_ %_ %_ %_ %⟨⟨load_ix rfl _, load_ix rfl _, load_ix rfl _, load_ix rfl _⟩, load_w rfl _, load_w rfl _, load_w rfl _, load_w rfl _⟩
  isplitl [Hw]; · iexact Hw
  isplitl [Hix]; · iexact Hix
  isplitl [Hsx]; · iexists _; iexact Hsx
  isplitl [Hsw]; · iexists _; iexact Hsw
  isplitl [Ha]; · iexact Ha
  isplitl [Hb]; · iexact Hb
  unfold Owing
  iexists (insert (SemLoc.dma b.sem, (default : HIx 1)) (insert (SemLoc.dma a.sem, (default : HIx 1)) W)); isplitr
  · ipureintro
    intro p hp
    rcases Finset.mem_insert.mp hp with hp | hp
    · exact .inr (hp ▸ rfl)
    rcases Finset.mem_insert.mp hp with hp | hp
    · exact .inr (hp ▸ rfl)
    · exact .inl hp
  · iexact HO

/-! ## What a tile owns: its scratch and its semaphores -/

omit [FloatOps F] in
/-- Of a family of resources, those an injection names, and the others. -/
theorem bigSep_pick {I : Type} [DecidableEq I] {n : ℕ} (e : Fin n → I) (he : Function.Injective e) {s : Finset I} (hs : ∀ k, e k ∈ s)
    (Φ : I → sProp 𝕄) : bigSep s Φ = iprop((bigSep Finset.univ fun k => Φ (e k)) ∗ bigSep (s \ Finset.univ.image e) Φ) := by
  rw [SparseCore.bigSep_sdiff_split' (t := Finset.univ.image e) (Finset.image_subset_iff.mpr fun k _ => hs k),
    SparseCore.bigSep_image_of_injOn (he.injOn) Φ]

/-- The tile's copy semaphores. -/
abbrev semAt (k : Fin 18) : GSem nD τ sig := (thr d L, SemLoc.dma k)
/-- The tile's scratch buffers. -/
abbrev scratch : Fin 4 → Ref sig .scVector := ![cc0_scratch0, cc0_scratch1, cc0_scratch2, cc0_scratch3]

/-- What a tile owns besides its scratch. -/
def otherBufs : sProp 𝕄 :=
  bigSep (ownRefs (τ := τ) (.scVector (cV L) (jV L)) \ Finset.univ.image fun k => (Proc.scVector (cV L) (jV L)).devRef (scratch k))
    fun b => iprop(∃ f, ((d, b) : Loc nD τ sig) ↦{fullShare} f)
/-- The semaphores of a tile besides its copies'. -/
def otherSems : sProp 𝕄 := bigSep (ownCells (thr d L) \ Finset.univ.image (semAt d L)) fun g => semVal g 0

omit [FloatOps F] in
/-- The tile's own buffers are its four scratches and others. -/
theorem ownBufs_tile : (ownBufs (thr d L) : sProp 𝕄)
    = iprop(((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)) ∗ otherBufs d L) := by
  unfold SparseCore.Cfg.ownBufs otherBufs
  have hinj : Function.Injective scratch := by decide
  refine (bigSep_pick (fun k => (Proc.scVector (cV L) (jV L)).devRef (scratch k)) (fun a b h => hinj (Proc.devRef_injective _ h))
    (fun k => SparseCore.Cfg.mem_ownRefs_of_owner (p := Proc.scVector (cV L) (jV L)) ?_) _).trans ?_
  · fin_cases k <;> rfl
  · rw [bigSep_univ_eq_bigSepL [0, 1, 2, 3] (by decide) (by decide)]
    rfl

omit [FloatOps F] in
/-- The tile's own semaphores are its copies' and others. -/
theorem ownSems0_tile : (ownSems0 (thr d L) : sProp 𝕄)
    = iprop((semVal (thr d L, SemLoc.dma cc0_scoped0.sem) 0 ∗ semVal (thr d L, SemLoc.dma cc0_scoped1.sem) 0 ∗ semVal (thr d L, SemLoc.dma cc0_scoped2.sem) 0
        ∗ semVal (thr d L, SemLoc.dma cc0_scoped3.sem) 0 ∗ semVal (thr d L, SemLoc.dma cc0_scoped4.sem) 0 ∗ semVal (thr d L, SemLoc.dma cc0_scoped5.sem) 0
        ∗ semVal (thr d L, SemLoc.dma cc0_scoped6.sem) 0 ∗ semVal (thr d L, SemLoc.dma cc0_scoped7.sem) 0 ∗ semVal (thr d L, SemLoc.dma cc0_scoped8.sem) 0
        ∗ semVal (thr d L, SemLoc.dma cc0_scoped9.sem) 0 ∗ semVal (thr d L, SemLoc.dma cc0_scoped10.sem) 0 ∗ semVal (thr d L, SemLoc.dma cc0_scoped11.sem) 0
        ∗ semVal (thr d L, SemLoc.dma cc0_scoped12.sem) 0 ∗ semVal (thr d L, SemLoc.dma cc0_scoped13.sem) 0 ∗ semVal (thr d L, SemLoc.dma cc0_scoped14.sem) 0
        ∗ semVal (thr d L, SemLoc.dma cc0_scoped15.sem) 0 ∗ semVal (thr d L, SemLoc.dma cc0_scoped16.sem) 0 ∗ semVal (thr d L, SemLoc.dma cc0_scoped17.sem) 0) ∗ otherSems d L) := by
  unfold SparseCore.Cfg.ownSems0 otherSems
  have hs : ∀ k : Fin 18, (SemLoc.dma k : SemLoc sig).isScoped .scVector = true := by decide
  refine (bigSep_pick (semAt d L) (fun a b h => by simpa using h) (fun k => mem_ownCells.mpr ⟨rfl, hs k⟩) _).trans ?_
  rw [bigSep_univ_eq_bigSepL [0, 1, 2, 3, 4, 5, 6, 7, 8, 9, 10, 11, 12, 13, 14, 15, 16, 17] (by decide) (by decide)]
  rfl

omit [FloatOps F] in
/-- Eight things, one by one. -/
theorem list8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The task -/

/-- The four arrays as the TensorCore addresses them. -/
abbrev yLoc (d : Dev nD) : Loc nD τ sig := (SparseCore.T d).loc main_arg0
abbrev wLoc (d : Dev nD) : Loc nD τ sig := (SparseCore.T d).loc main_arg1
abbrev ixLoc (d : Dev nD) : Loc nD τ sig := (SparseCore.T d).loc main_arg2
abbrev oLoc (d : Dev nD) : Loc nD τ sig := (SparseCore.T d).loc main_v0

/-- What a tile is lent for its task and gives back: a share of each argument, and its eight chunks of the result. -/
def Task (y : (Grid 16384 256).Idx → F .f32) (w : List64.Idx → F .f32) (ix : List64.Idx → BitVec 32)
    (q : PosShare TreeShare) (i : Fin 16) (f : (Grid 16384 64).Idx → F .f32) : sProp 𝕄 :=
  iprop((yLoc d ↦{q} y) ∗ (wLoc d ↦{q} w) ∗ (ixLoc d ↦{q} ix)
    ∗ bigSep Finset.univ fun c : Fin 8 => oLoc d ↦[rowsFrom (firstRow (i, c))]{fullShare} f)

/-- The tile's number. -/
abbrev tileNo (L : grid0.Coords) : Fin 16 := ⟨(L 1).val, (L 1).isLt⟩

/-- Where the input of the chunks after the first begins. -/
theorem k0_off7_row (L : grid0.Coords) (r : Fin 7) :
    k0_off7 L (BitVec.ofNat 32 (128 + 128 * r.val)) = ![firstRow (tileNo L, r.succ), 0] := by
  rw [k0_off7_eq]
  have e : 1024 * (L 1).val + 128 * r.val + 128 = firstRow (tileNo L, r.succ) := by
    simp only [firstRow, Fin.val_succ]; omega
  rw [e]

set_option maxHeartbeats 4000000 in
/-- A tile's task: from shares of the arguments and its eight chunks of the result, whatever these hold, to the same with
    the scaled columns in the chunks. -/
theorem tile_body (hF : (K (F := F)).Facts) {y : (Grid 16384 256).Idx → F .f32} {w : List64.Idx → F .f32} {ix : List64.Idx → BitVec 32}
    (hix : InRange ix) (q : PosShare TreeShare) (f : (Grid 16384 64).Idx → F .f32)
    (O : CellTallies nD τ sig (HIx 1)) (W : Waits sig (HIx 1)) (hO : ∀ g, O g none = 0) :
    iprop(levAts (K (F := F)).L (K (F := F)).lev ∗ emp ∗ Task d y w ix q (tileNo L) f
        ∗ scopedBufs (thr d L) ∗ scopedSems0 (thr d L) ∗ owes (thr d L) O W)
      ⊢ wp frame (wpE (defs₀ (F := F)) 𝒱₀ (thr d L) none) Set.univ
          (cc0__gather_scale L yV (Memref.isWhole_whole _) wV (Memref.isWhole_whole _) ixV (Memref.isWhole_whole _) oV (Memref.isWhole_whole _)
            sIx (Memref.isWhole_whole _) sW (Memref.isWhole_whole _) sIn (Memref.isWhole_whole _) sOut (Memref.isWhole_whole _)
            cc0_scoped0 cc0_scoped1 cc0_scoped2 cc0_scoped3 cc0_scoped4 cc0_scoped5 cc0_scoped6 cc0_scoped7 cc0_scoped8
            cc0_scoped9 cc0_scoped10 cc0_scoped11 cc0_scoped12 cc0_scoped13 cc0_scoped14 cc0_scoped15 cc0_scoped16 cc0_scoped17)
          fun _ => iprop(Task d y w ix q (tileNo L) (scaledColumns y ix w) ∗ scopedBufs (thr d L) ∗ scopedSems0 (thr d L)
            ∗ ∃ W', ⌜∀ p ∈ W', p ∈ W ∨ p.2 = none⌝ ∗ owes (thr d L) O W') := by
  simp only [cc0__gather_scale_eq_skeleton]; unfold cc0__gather_scale_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_tile, ownBufs_tile]
  unfold Task
  simp only [list8]
  iintro ⟨#Hlv, -, ⟨Hy, Hw, Hix, C0, C1, C2, C3, C4, C5, C6, C7⟩, ⟨⟨Hsx, Hsw, Hin, Hout⟩, Hbufs⟩,
    ⟨⟨A0, A1, A2, A3, A4, A5, A6, A7, A8, A9, A10, A11, A12, A13, A14, A15, A16, A17⟩, Hsems⟩, HO⟩
  ihave #Hmw := ((K (F := F)).mayWaits_none (thr := thr d L) hO) $$ Hlv
  iapply (head_wp d L (w := w) (ix := ix) cc0_scoped0 cc0_scoped1) $$ [Hw Hix Hsx Hsw A0 A1 HO]
  · isplitr; · iexact Hmw
    isplitl [Hw]; · iexact Hw
    isplitl [Hix]; · iexact Hix
    isplitl [Hsx]; · iexact Hsx
    isplitl [Hsw]; · iexact Hsw
    isplitl [A0]; · iexact A0
    isplitl [A1]; · iexact A1
    iexact HO
  iintro %v1 %v2 %v3 %v4 %v5 %v6 %v7 %v8 %hv ⟨Hw, Hix, Hsx, Hsw, A0, A1, HO⟩
  obtain ⟨⟨h1, h2, h3, h4⟩, h5, h6, h7, h8⟩ := hv
  have hbody := fun fin k u => trip_wp d L (fin := fin) hix h1 h2 h3 h4 h5 h6 h7 h8 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 k u
  ihave HK : Keep d L q y O W $$ [Hy Hin Hout HO]
  · unfold Keep
    isplitr; · iexact Hmw
    isplitl [Hy]; · iexact Hy
    isplitl [Hin]; · iexact Hin
    isplitl [Hout]; · iexact Hout
    iexact HO
  iapply (chunk_wp d L (firstRow (tileNo L, 0)) (k0_off1_eq L) (k0_off6_eq L 0) cc0_scoped2 cc0_scoped3 _ hbody) $$ HK C0 A2 A3
  iintro ⟨HK, C0, A2, A3⟩
  iapply (chunk_wp d L (firstRow (tileNo L, 1)) (k0_off7_row L 0) (k0_off6_eq L 1) cc0_scoped4 cc0_scoped5 _ hbody) $$ HK C1 A4 A5
  iintro ⟨HK, C1, A4, A5⟩
  iapply (chunk_wp d L (firstRow (tileNo L, 2)) (k0_off7_row L 1) (k0_off6_eq L 2) cc0_scoped6 cc0_scoped7 _ hbody) $$ HK C2 A6 A7
  iintro ⟨HK, C2, A6, A7⟩
  iapply (chunk_wp d L (firstRow (tileNo L, 3)) (k0_off7_row L 2) (k0_off6_eq L 3) cc0_scoped8 cc0_scoped9 _ hbody) $$ HK C3 A8 A9
  iintro ⟨HK, C3, A8, A9⟩
  iapply (chunk_wp d L (firstRow (tileNo L, 4)) (k0_off7_row L 3) (k0_off6_eq L 4) cc0_scoped10 cc0_scoped11 _ hbody) $$ HK C4 A10 A11
  iintro ⟨HK, C4, A10, A11⟩
  iapply (chunk_wp d L (firstRow (tileNo L, 5)) (k0_off7_row L 4) (k0_off6_eq L 5) cc0_scoped12 cc0_scoped13 _ hbody) $$ HK C5 A12 A13
  iintro ⟨HK, C5, A12, A13⟩
  iapply (chunk_wp d L (firstRow (tileNo L, 6)) (k0_off7_row L 5) (k0_off6_eq L 6) cc0_scoped14 cc0_scoped15 _ hbody) $$ HK C6 A14 A15
  iintro ⟨HK, C6, A14, A15⟩
  iapply (chunk_wp d L (firstRow (tileNo L, 7)) (k0_off7_row L 6) (k0_off6_eq L 7) cc0_scoped16 cc0_scoped17 _ hbody) $$ HK C7 A16 A17
  iintro ⟨HK, C7, A16, A17⟩
  unfold Keep Owing
  icases HK with ⟨-, Hy, Hin, Hout, HO⟩
  rw [wp_ret]; imodintro
  isplitl [Hy Hw Hix C0 C1 C2 C3 C4 C5 C6 C7]
  · isplitl [Hy]; · iexact Hy
    isplitl [Hw]; · iexact Hw
    isplitl [Hix]; · iexact Hix
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [Hsx Hsw Hin Hout Hbufs]
  · isplitr [Hbufs]
    · isplitl [Hsx]; · iexact Hsx
      isplitl [Hsw]; · iexact Hsw
      isplitl [Hin]; · iexact Hin
      iexact Hout
    · iexact Hbufs
  isplitl [A0 A1 A2 A3 A4 A5 A6 A7 A8 A9 A10 A11 A12 A13 A14 A15 A16 A17 Hsems]
  · isplitr [Hsems]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      iexact A17
    · iexact Hsems
  iexact HO

end Cert.Proof.KernelIdealRun

end
-- ==== Proof.KernelIdealLaunch.lean ====
/-
  The whole program: the one call deals its arrays among sixteen tiles, each runs its task, and what they give back is the
  result whole. From this, the program's run: it ends, its arguments as they were, its result the scaled columns, every
  semaphore at zero.
-/
module

public import proofs.«01_k».proof.Proof.KernelIdealTile

@[expose] public section

noncomputable section

namespace Cert.Proof.KernelIdealRun

open Cert.KernelIdeal Cert.KernelIdeal.Gen Cert.Proof.Values

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The set-up -/

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, in the left factor. -/
abbrev EH : Emb UH (MT nD τ sig (HIx 1) (Elt F) ℕ UU ℕ) := embL

/-- The arguments and the result a device's launch memory holds, as plain arrays. -/
abbrev yAt (d : Dev nD) : (Grid 16384 256).Idx → F .f32 := m (yLoc d)
abbrev wAt (d : Dev nD) : List64.Idx → F .f32 := m (wLoc d)
abbrev ixAt (d : Dev nD) : List64.Idx → BitVec 32 := m (ixLoc d)
/-- What the program is to leave as its result. -/
abbrev result (d : Dev nD) : (Grid 16384 64).Idx → F .f32 := scaledColumns (yAt m d) (ixAt m d) (wAt m d)

/-- Every index word, on every device, names a column. -/
def PreOK : Prop := ∀ d, InRange (ixAt m d)

/-! ## Dealing the arrays -/

/-- The arguments whole at their launch contents and the result whole at `f`. -/
def Whole (d : Dev nD) (f : (Grid 16384 64).Idx → F .f32) : sProp 𝕄 :=
  iprop((yLoc d ↦{fullShare} m (yLoc d)) ∗ (wLoc d ↦{fullShare} m (wLoc d)) ∗ (ixLoc d ↦{fullShare} m (ixLoc d)) ∗ (oLoc d ↦{fullShare} f))

/-- Tile `i`'s share of the arguments. -/
def share (i : Fin 16) : PosShare TreeShare := Transfers.dealOf fullShare Finset.univ i

/-- The part of tile `i`. -/
abbrev TaskAt (d : Dev nD) (f : (Grid 16384 64).Idx → F .f32) (i : Fin 16) : sProp 𝕄 :=
  Task d (yAt m d) (wAt m d) (ixAt m d) (share i) i f

/-- The result whole is its chunks, tile by tile. -/
theorem result_chunks (d : Dev nD) (f : (Grid 16384 64).Idx → F .f32) :
    (oLoc d ↦{fullShare} f : sProp 𝕄)
      = bigSep Finset.univ fun i : Fin 16 => bigSep Finset.univ fun c : Fin 8 => oLoc d ↦[rowsFrom (firstRow (i, c))]{fullShare} f := by
  rw [← bigSep_univ_prod (fun t : Fin 16 × Fin 8 => (oLoc d ↦[rowsFrom (firstRow t)]{fullShare} f : sProp 𝕄)),
    ← pointsTo_biUnion (ℓ := oLoc d) Finset.univ (fun t : Fin 16 × Fin 8 => rowsFrom (firstRow t)) rowsFrom_disjoint, rowsFrom_cover]

/-- The arrays whole are the sixteen tiles' parts. -/
theorem whole_eq (d : Dev nD) (f : (Grid 16384 64).Idx → F .f32) : Whole m d f = bigSep Finset.univ (TaskAt m d f) := by
  unfold Whole TaskAt Task share
  rw [bigSep_sep', bigSep_sep', bigSep_sep', ← result_chunks,
    ← Transfers.pointsTo_deal (ℓ := yLoc d) Finset.univ Finset.univ_nonempty, ← Transfers.pointsTo_deal (ℓ := wLoc d) Finset.univ Finset.univ_nonempty,
    ← Transfers.pointsTo_deal (ℓ := ixLoc d) Finset.univ Finset.univ_nonempty]

/-- The call takes the arrays whole and deals each tile its part; the tiles and the call bring back the same with the
    result computed. -/
def P : (K (F := F)).Pay (nD := nD) (Val := Elt F) (Name := ℕ) (U := UU) where
  st := fun q d _ => match q with | 0 => Whole m d (m (oLoc d))
  dn := fun q d _ => match q with | 0 => Whole m d (result m d)
  go := fun q d _ i => match q with | 0 => TaskAt m d (m (oLoc d)) (Fin.cast nSub_zero i)
  td := fun q d _ i => match q with | 0 => TaskAt m d (result m d) (Fin.cast nSub_zero i)
  x := fun _ _ => iprop(emp)

instance whole_storable (d : Dev nD) (f : (Grid 16384 64).Idx → F .f32) : BI.Storable (upEmb : UEmb _ 𝕄) (Whole m d f) := by
  unfold Whole; infer_instance

instance task_storable (d : Dev nD) (f : (Grid 16384 64).Idx → F .f32) (i : Fin 16) : BI.Storable (upEmb : UEmb _ 𝕄) (TaskAt m d f i) := by
  unfold TaskAt Task; infer_instance

instance P_storable : (P (F := F) m).IsStorable where
  st q d _ := match q with | 0 => whole_storable m d _
  dn q d _ := match q with | 0 => whole_storable m d _
  go q d _ i := match q with | 0 => task_storable m d _ _
  td q d _ i := match q with | 0 => task_storable m d _ _

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's arrays are the tiles' parts, and the tiles' parts given back are the call's result. -/
theorem vecSplit : (K (F := F)).VecSplit' (P m) 0 := by
  intro d c
  show Whole m d (m (oLoc d)) ⊢ |={Set.univ}=> iprop(
      (bigSep Finset.univ fun i : Fin ((K (F := F)).nSub 0) => TaskAt m d (m (oLoc d)) (Fin.cast nSub_zero i))
      ∗ ((bigSep Finset.univ fun i : Fin ((K (F := F)).nSub 0) => TaskAt m d (result m d) (Fin.cast nSub_zero i)) -∗ Whole m d (result m d)))
  rw [bigSep_tasks (F := F) (TaskAt m d (m (oLoc d))), bigSep_tasks (F := F) (TaskAt m d (result m d)), whole_eq, whole_eq]
  iintro H; imodintro
  isplitl [H]; · iexact H
  iintro H; iexact H

/-! ## The tiles -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_scale (coordsV c s)
            yV (Memref.isWhole_whole _) wV (Memref.isWhole_whole _) ixV (Memref.isWhole_whole _) oV (Memref.isWhole_whole _)
            sIx (Memref.isWhole_whole _) sW (Memref.isWhole_whole _) sIn (Memref.isWhole_whole _) sOut (Memref.isWhole_whole _)
            cc0_scoped0 cc0_scoped1 cc0_scoped2 cc0_scoped3 cc0_scoped4 cc0_scoped5 cc0_scoped6 cc0_scoped7 cc0_scoped8
            cc0_scoped9 cc0_scoped10 cc0_scoped11 cc0_scoped12 cc0_scoped13 cc0_scoped14 cc0_scoped15 cc0_scoped16 cc0_scoped17) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task runs from its part to its part with the result computed. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (hpre d) (share (Fin.cast nSub_zero i)) (m (oLoc d)) O W hO).trans
    (wp_mono frame _ _ fun _ => obl_post)

/-! ## The launch's ghost state: the handshakes', and none of the program's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call on the TensorCore -/

omit [FloatOps F] in
/-- The arrays of the TensorCore: the arguments and the result. -/
theorem unscopedBufs_eq (d : Dev nD) (W : (b : Ref sig .tc) → Buf (Elt F) ((d.tc : Thread nD τ).loc b)) :
    (unscopedBufs d W : sProp 𝕄)
      = iprop((yLoc d ↦{fullShare} W main_arg0) ∗ (wLoc d ↦{fullShare} W main_arg1) ∗ (ixLoc d ↦{fullShare} W main_arg2) ∗ (oLoc d ↦{fullShare} W main_v0)) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = Whole m d (m (oLoc d)) :=
  bigSep_univ_of_subsingleton (0 : Fin 1)
theorem dn0_eq (d : Dev nD) : (bigSep Finset.univ fun c : Fin ((K (F := F)).nCore 0) => (P m).dn 0 d c) = Whole m d (result m d) :=
  bigSep_univ_of_subsingleton (0 : Fin 1)

/-- The one call, from the arrays as launched to the arrays with the result computed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Whole m d (result m d) ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; unfold Whole; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## The program's run -/

/-- What a device's final memory holds: the arguments as launched, the result computed. -/
def fq (d : Dev nD) (s' : Phys nD τ sig (Elt F)) : Prop :=
  s'.mem.mem (yLoc d) = m (yLoc d) ∧ s'.mem.mem (wLoc d) = m (wLoc d) ∧ s'.mem.mem (ixLoc d) = m (ixLoc d) ∧ s'.mem.mem (oLoc d) = result m d

omit [FloatOps F] in
/-- An array held whole is what the memory holds of it. -/
theorem held_mem {s' : Phys nD τ sig (Elt F)} {ℓ : Loc nD τ sig} {f : Buf (Elt F) ℓ} {R : sProp 𝕄} :
    iprop(SI s' ∗ (ℓ ↦{fullShare} f) ∗ R) ⊢ iprop(⌜s'.mem.mem ℓ = f⌝ ∗ SI s' ∗ R) := by
  iintro ⟨HSI, H, HR⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  isplitl [HSI] <;> iassumption

theorem hfin (d : Dev nD) (s' : Phys nD τ sig (Elt F)) : iprop(Whole m d (result m d) ∗ SI s') ⊢ (⌜fq m d s'⌝ : sProp 𝕄) := by
  unfold Whole
  iintro ⟨⟨Hy, Hw, Hix, Ho⟩, HSI⟩
  ihave H := held_mem $$ [HSI Hy Hw]
  · isplitl [HSI]; · iexact HSI
    isplitl [Hy]; · iexact Hy
    iexact Hw
  icases H with ⟨%h1, HSI, Hw⟩
  ihave H := held_mem $$ [HSI Hw Hix]
  · isplitl [HSI]; · iexact HSI
    isplitl [Hw]; · iexact Hw
    iexact Hix
  icases H with ⟨%h2, HSI, Hix⟩
  ihave H := held_mem $$ [HSI Hix Ho]
  · isplitl [HSI]; · iexact HSI
    isplitl [Hix]; · iexact Hix
    iexact Ho
  icases H with ⟨%h3, HSI, Ho⟩
  ihave H := (SI_pointsTo_agree (st := s') (ℓ := oLoc d) (I := Finset.univ) (q := fullShare) (f := result m d)) $$ [HSI Ho]
  · isplitl [HSI] <;> iassumption
  icases H with %h4
  ipureintro; exact ⟨h1, h2, h3, funext fun i => h4 i (Finset.mem_univ i)⟩

/-- What every final state of the program's run is: the arguments as launched, the result the scaled columns, and all
    semaphores at zero. -/
def QC : PUnit × MemSt nD τ sig (Elt F) → Prop := fun r =>
  (∀ c : Dev nD, r.2.mem (yLoc c) = m (yLoc c) ∧ r.2.mem (wLoc c) = m (wLoc c) ∧ r.2.mem (ixLoc c) = m (ixLoc c) ∧ r.2.mem (oLoc c) = result m c)
    ∧ r.2.sem = fun _ => 0

/-- The program's run: from a memory whose index words all name columns, every final state is as `QC` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => Whole m d (result m d)) (u₀ (F := F)) (sep_elim_left.trans (hu₀ m)) (hmain m ρ) (fq m) (hfin m) (QC m) (fun _ h hz => ⟨h, hz⟩)

end Cert.Proof.KernelIdealRun

end
-- ==== Proof.Reference.lean ====
/-
  What the reference computes. It wraps negative indices, masks those out of range, gathers columns of `y` and scales
  them by the weights. Where every index word names a column, the wrap changes nothing and the mask lets everything
  through, so the result is the scaled columns.
-/
module

public import proofs.«01_k».proof.Defs
public import proofs.«01_k».proof.Proof.Values
public import proofs.«01_k».proof.Proof.Gen.ReferenceIdeal
public import proofs.«01_k».proof.Proof.Gen.ReferenceIdeal.Run
public import proofs.«01_k».proof.Proof.Gen.Pre_nodes_in_range
public import Idealize.ShloMosaic.Lib.ReduceAll
public import Idealize.ShloMosaic.Lib.Quiescent

@[expose] public section

noncomputable section

namespace Cert.Proof.ReferenceRun

open Cert.ReferenceIdeal Cert.ReferenceIdeal.Gen Cert.Proof.Values
open Idealize.ShloMosaic Idealize.ShloMosaic.TcCoe Idealize.SL.Sem

/-! ## Index words -/

/-- A word below 256, read as a signed integer, is its own value. -/
theorem toInt_of_lt {v : BitVec 32} (h : v.toNat < 256) : v.toInt = v.toNat := by
  rw [BitVec.toInt_eq_toNat_cond, if_pos (by omega)]

/-- A word that is at least 0 and less than 256 as a signed integer is below 256 as a natural number. -/
theorem lt_of_signed {v : BitVec 32} (h0 : (0#32).toInt ≤ v.toInt) (h1 : v.toInt < (256#32).toInt) : v.toNat < 256 := by
  have e0 : (0#32).toInt = 0 := by decide
  have e1 : (256#32).toInt = 256 := by decide
  rw [e0] at h0; rw [e1] at h1
  rw [BitVec.toInt_eq_toNat_cond] at h0 h1
  split at h0 <;> omega

instance : Subsingleton Cert.Pre_nodes_in_range.S_.Idx := ⟨fun a b => funext fun x => x.elim0⟩

/-- The precondition says that every index word names a column. -/
theorem inRange_of_pre {F : FTy → Type} [FloatOps F] (y : (Grid 16384 256).Idx → F .f32) (w : List64.Idx → F .f32)
    (ix : List64.Idx → BitVec 32) (h : Cert.Pre_nodes_in_range.fn (F := F) y w ix = fun _ => 1#1) : InRange ix := by
  intro j
  have e := Host.reduce_andi_all _ _ _ _ (fun a => a.elim0) (congrFun h fun a => a.elim0) j
  obtain ⟨e0, e1⟩ := IntOp.andi_eq_one.1 e
  exact lt_of_signed (IntOp.cmpi_sge.1 e0) (IntOp.cmpi_slt.1 e1)

/-! ## The reference's steps -/

section Steps

variable {ix : List64.Idx → BitVec 32}

/-- The index list with 256 added to each negative word. -/
abbrev wrapped (ix : List64.Idx → BitVec 32) : List64.Idx → BitVec 32 :=
  select (cmpi .slt ix (broadcastInDim S64 ![] bcast_S_S64 (constantI S_ 32 0#32)))
    (addi ix (broadcastInDim S64 ![] bcast_S_S64 (constantI S_ 32 256#32))) ix

/-- Words that name columns are not negative: the wrap leaves them. -/
theorem wrapped_eq (h : InRange ix) : wrapped ix = ix := by
  funext j
  refine if_neg fun e => ?_
  have e := IntOp.cmpi_slt.1 e
  rw [toInt_of_lt (h j)] at e
  have e0 : (0#32).toInt = 0 := by decide
  change ((ix j).toNat : ℤ) < (0#32).toInt at e
  omega

/-- The index list as a column. -/
abbrev asColumn (ix : List64.Idx → BitVec 32) : S64x1.Idx → BitVec 32 := broadcastInDim S64x1 ![0] bcast_S64_S64x1_0 ix

/-- The column's place `(j, 0)` holds the list's `j`-th word. -/
theorem asColumn_apply (i : S64x1.Idx) : asColumn ix i = ix (spot (i 0)) := by
  refine congrArg ix (funext fun a => ?_)
  obtain rfl : a = 0 := Subsingleton.elim _ _
  rfl

/-- Which index words lie between 0 and 255. -/
abbrev mask (ix : List64.Idx → BitVec 32) : S64.Idx → BitVec 1 :=
  Host.reduce IntOp.andi
    (andi (cmpi .sge (asColumn ix) (broadcastInDim S64x1 ![] bcast_S_S64x1 (constantI S_ 32 0#32)))
      (cmpi .sle (asColumn ix) (broadcastInDim S64x1 ![0, 1] bcast_S1x1_S64x1_0_1 (broadcastInDim S1x1 ![1] bcast_S1_S1x1_1 (constantI S1 32 255#32)))))
    (constantI S_ 1 1#1) reducesTo_S64x1_S64_d1 h_S_

/-- All words that name columns do. -/
theorem mask_eq (h : InRange ix) (j : S64.Idx) : mask ix j = 1#1 := by
  refine Host.reduce_andi_one _ _ _ _ _ rfl fun i => IntOp.andi_eq_one.2 ⟨IntOp.cmpi_sge.2 ?_, IntOp.cmpi_sle.2 ?_⟩ <;>
    rw [asColumn_apply, toInt_of_lt (h _)]
  · exact (show (0#32).toInt ≤ ((ix (spot (i 0))).toNat : ℤ) from by
      have : (0#32).toInt = 0 := by decide
      omega)
  · exact (show ((ix (spot (i 0))).toNat : ℤ) ≤ (255#32).toInt from by
      have : (255#32).toInt = 255 := by decide
      have := h (spot (i 0))
      omega)

/-- The gather along axis 1: column `j` of its result is the column of `y` that the `j`-th word names. -/
theorem gather_apply {α : Type} (y : (Grid 16384 256).Idx → α) (h : InRange ix) (p : (Grid 16384 64).Idx) :
    Host.gather gather_S16384x256_S64x1_S16384x64_0_1_n_n_1_1_163841 y (asColumn ix) p = y (cell (n := 16384) (p 0) (column (ix (spot (p 1))))) := by
  set d := gather_S16384x256_S64x1_S16384x64_0_1_n_n_1_1_163841 with hd
  refine congrArg y (funext fun a => Fin.ext ?_)
  show d.start p (asColumn ix) a + d.batchCoord p a + d.offCoord p a = _
  rw [GatherDims.batchCoord_eq_zero _ _ _ List.not_mem_nil, Nat.add_zero]
  match a with
  | 0 =>
    have hs : d.start p (asColumn ix) 0 = 0 := dif_neg (by decide)
    have ho : d.offCoord p 0 = (p 0).val := dif_pos (by decide)
    rw [hs, ho, Nat.zero_add]; rfl
  | 1 =>
    have ho : d.offCoord p 1 = 0 := dif_neg (by decide)
    have hs : d.start p (asColumn ix) 1 = min (ix (spot (p 1))).toInt.toNat 255 := by
      refine (dif_pos (by decide)).trans ?_
      rw [asColumn_apply]; rfl
    rw [hs, ho, Nat.add_zero, toInt_of_lt (h _), Int.toNat_natCast, Nat.min_eq_left (Nat.le_of_lt_succ (h _))]
    exact (column_val (h _)).symm

/-- The reference's result, over the reals, is the scaled columns. -/
theorem value_eq (y : (Grid 16384 256).Idx → Ideal .f32) (w : List64.Idx → Ideal .f32) (h : InRange ix) :
    mulf (broadcastInDim S16384x64 ![0, 1] bcast_S1x64_S16384x64_0_1 (broadcastInDim S1x64 ![1] bcast_S64_S1x64_1 w))
      (select (broadcastInDim S16384x64 ![1] bcast_S64_S16384x64_1 (mask (wrapped ix)))
        (Host.gather gather_S16384x256_S64x1_S16384x64_0_1_n_n_1_1_163841 y (asColumn (wrapped ix)))
        (broadcastInDim S16384x64 ![] bcast_S_S16384x64 (constant S_ .f32 0x7FC00000#32)))
      = scaledColumns (n := 16384) y ix w := by
  rw [wrapped_eq h]
  funext p
  have hw : broadcastInDim S16384x64 ![0, 1] bcast_S1x64_S16384x64_0_1 (broadcastInDim S1x64 ![1] bcast_S64_S1x64_1 w) p = w (spot (p 1)) := by
    refine congrArg w (funext fun a => ?_)
    obtain rfl : a = 0 := Subsingleton.elim _ _
    rfl
  have hg : select (broadcastInDim S16384x64 ![1] bcast_S64_S16384x64_1 (mask ix))
      (Host.gather gather_S16384x256_S64x1_S16384x64_0_1_n_n_1_1_163841 y (asColumn ix))
      (broadcastInDim S16384x64 ![] bcast_S_S16384x64 (constant S_ .f32 0x7FC00000#32)) p = y (cell (n := 16384) (p 0) (column (ix (spot (p 1))))) :=
    (if_pos (mask_eq h _)).trans (gather_apply y h p)
  refine (congrArg₂ FloatOps.mulf hw hg).trans ?_
  exact mul_comm (G := EReal) _ _

end Steps

/-! ## The reference's run -/

variable (m : (ℓ : Loc nD τ sig) → Buf (Elt Ideal) ℓ) (ρ : Dev nD → PrngReg)

/-- The reference runs, leaves its arguments as they are and all semaphores at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun r h => ⟨fun c => (h c).2, sem_eq_zero_of_no_sems rfl r.2⟩) (Cert.ReferenceIdeal.Value.run m ρ)

/-- From a memory whose index words all name columns, the reference's result is the scaled columns. -/
theorem run_value (h : ∀ c : Dev nD, InRange (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v3) = scaledColumns (F := Ideal) (n := 16384) (m ((c.tc : Thread nD τ).loc main_arg0))
          (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ e c => ⟨(e c).1.trans (value_eq _ _ (h c)), (e c).2⟩) (Cert.ReferenceIdeal.Value.run m ρ)

end Cert.Proof.ReferenceRun

end
-- ==== Proof.lean ====
/- The certificate's claims, assembled: the kernel's run at the device's floats and over the reals, the reference's run,
   and the equality of their results. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nodes_in_range
public import proofs.«01_k».proof.Proof.KernelLaunch
public import proofs.«01_k».proof.Proof.KernelIdealLaunch
public import proofs.«01_k».proof.Proof.Reference
public import Idealize.ShloMosaic.Adequacy
public import Idealize.ShloMosaic.Init

@[expose] public section

noncomputable section

namespace Cert.Proof

open Idealize.ShloMosaic Idealize.SL.Sem

/-- The kernel's frame: it runs, leaves its arguments as they are and all semaphores at zero. -/
theorem kernel_frame : Cert.quiescent_Kernel := fun m g hpre =>
  (θ_run _ _ _).mono (fun _ h => ⟨fun c => ⟨(h.1 c).1, (h.1 c).2.1, (h.1 c).2.2.1⟩, h.2⟩)
    (KernelRun.run_main (F := Bits) m g fun d => ReferenceRun.inRange_of_pre _ _ _ (hpre d))

/-- Under the precondition, every index word of the ideal kernel's launch memory names a column. -/
theorem kernelIdeal_pre {m : (ℓ : Loc Cert.KernelIdeal.nD Cert.KernelIdeal.τ Cert.KernelIdeal.sig) → Buf (Elt Ideal) ℓ}
    (hpre : Cert.Pre_KernelIdeal m) : KernelIdealRun.PreOK (F := Ideal) m :=
  fun d => ReferenceRun.inRange_of_pre _ _ _ (hpre d)

/-- The ideal kernel's frame: it runs, leaves its arguments as they are and all semaphores at zero. -/
theorem kernelIdeal_frame : Cert.quiescent_KernelIdeal := fun m g hpre =>
  (θ_run _ _ _).mono (fun _ h => ⟨fun c => ⟨(h.1 c).1, (h.1 c).2.1, (h.1 c).2.2.1⟩, h.2⟩)
    (KernelIdealRun.run_main (F := Ideal) m g (kernelIdeal_pre hpre))

/-- Over the reals the kernel and the reference end with the same result: the scaled columns of `y`. -/
theorem same_result : Cert.algebraic_KernelIdeal_ReferenceIdeal := by
  intro m g m' g' hpre hargs
  refine ⟨fun c => KernelIdealRun.result m c, ?_, ?_⟩
  · exact (θ_run _ _ _).mono (fun _ h c => ⟨(h.1 c).2.2.2, (h.1 c).1, (h.1 c).2.1, (h.1 c).2.2.1⟩)
      (KernelIdealRun.run_main (F := Ideal) m g (kernelIdeal_pre hpre))
  · refine (θ_run _ _ _).mono (fun _ h c => ⟨(h c).1.trans ?_, (h c).2⟩) (ReferenceRun.run_value m' g' fun c => ?_)
    · rw [(hargs c).2.2]; exact kernelIdeal_pre hpre c
    · rw [(hargs c).1, (hargs c).2.1, (hargs c).2.2]

/-- All the certificate's claims. -/
theorem claim : Cert.Claim :=
  ⟨Cert.Kernel.Gen.facts, Cert.KernelIdeal.Gen.facts, Cert.ReferenceIdeal.Gen.facts, Cert.Pre_nodes_in_range.Gen.facts,
    kernel_frame, kernelIdeal_frame, fun m g _ => ReferenceRun.frame m g, fun m g _ => ReferenceRun.frame m g, trivial, same_result⟩

end Cert.Proof

end
